-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![8192, 512]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![8192, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2_3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S16x8x1024 : Shape := ⟨3, ![16, 8, 1024]⟩
abbrev S8x1024 : Shape := ⟨2, ![8, 1024]⟩
abbrev S16 : Shape := ⟨1, ![16]⟩
abbrev S_ : Shape := ⟨0, ![]⟩
abbrev S512 : Shape := ⟨1, ![512]⟩
abbrev S1x512 : Shape := ⟨2, ![1, 512]⟩
abbrev S1x1024 : Shape := ⟨2, ![1, 1024]⟩
abbrev S1 : Shape := ⟨1, ![1]⟩
abbrev S1x8x1024 : Shape := ⟨3, ![1, 8, 1024]⟩
abbrev S512x1024 : Shape := ⟨2, ![512, 1024]⟩

abbrev nBuf : Space → Nat
  | .hbm => 2
  | .vmem => 4
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S16x8x1024, .f32⟩
  | .local _ .vmem, ⟨3, _⟩ => ⟨S8x1024, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 2 → Bool
  | ⟨0, _⟩ => false
  | ⟨1, _⟩ => true
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 2 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 : Nat :=
  let c0_i32_4 : BitVec 32 := 0#32
  let c0_i32 : BitVec 32 := 0#32
  let c1_i32_3 : BitVec 32 := 1#32
  let v8 : BitVec 32 := Scalar.muli c0_i32 c1_i32_3
  let v9 : BitVec 32 := Scalar.addi c0_i32_4 v8
  v9.toNat
def k0_dev2 : Nat :=
  let c0_i32_8 : BitVec 32 := 0#32
  let c1_i32_6 : BitVec 32 := 1#32
  let c1_i32_7 : BitVec 32 := 1#32
  let v10 : BitVec 32 := Scalar.muli c1_i32_6 c1_i32_7
  let v11 : BitVec 32 := Scalar.addi c0_i32_8 v10
  v11.toNat
def k0_dev3 : Nat :=
  let c0_i32_11 : BitVec 32 := 0#32
  let c2_i32 : BitVec 32 := 2#32
  let c1_i32_10 : BitVec 32 := 1#32
  let v12 : BitVec 32 := Scalar.muli c2_i32 c1_i32_10
  let v13 : BitVec 32 := Scalar.addi c0_i32_11 v12
  v13.toNat
def k0_dev4 : Nat :=
  let c0_i32_14 : BitVec 32 := 0#32
  let c3_i32 : BitVec 32 := 3#32
  let c1_i32_13 : BitVec 32 := 1#32
  let v14 : BitVec 32 := Scalar.muli c3_i32 c1_i32_13
  let v15 : BitVec 32 := Scalar.addi c0_i32_14 v14
  v15.toNat
def k0_dev5 : Nat :=
  let c0_i32_17 : BitVec 32 := 0#32
  let c4_i32 : BitVec 32 := 4#32
  let c1_i32_16 : BitVec 32 := 1#32
  let v16 : BitVec 32 := Scalar.muli c4_i32 c1_i32_16
  let v17 : BitVec 32 := Scalar.addi c0_i32_17 v16
  v17.toNat
def k0_dev6 : Nat :=
  let c0_i32_20 : BitVec 32 := 0#32
  let c5_i32 : BitVec 32 := 5#32
  let c1_i32_19 : BitVec 32 := 1#32
  let v18 : BitVec 32 := Scalar.muli c5_i32 c1_i32_19
  let v19 : BitVec 32 := Scalar.addi c0_i32_20 v18
  v19.toNat
def k0_dev7 : Nat :=
  let c0_i32_23 : BitVec 32 := 0#32
  let c6_i32 : BitVec 32 := 6#32
  let c1_i32_22 : BitVec 32 := 1#32
  let v20 : BitVec 32 := Scalar.muli c6_i32 c1_i32_22
  let v21 : BitVec 32 := Scalar.addi c0_i32_23 v20
  v21.toNat
def k0_dev8 : Nat :=
  let c0_i32_26 : BitVec 32 := 0#32
  let c7_i32 : BitVec 32 := 7#32
  let c1_i32_25 : BitVec 32 := 1#32
  let v22 : BitVec 32 := Scalar.muli c7_i32 c1_i32_25
  let v23 : BitVec 32 := Scalar.addi c0_i32_26 v22
  v23.toNat
def k0_dev9 : Nat :=
  let c0_i32_29 : BitVec 32 := 0#32
  let c8_i32 : BitVec 32 := 8#32
  let c1_i32_28 : BitVec 32 := 1#32
  let v24 : BitVec 32 := Scalar.muli c8_i32 c1_i32_28
  let v25 : BitVec 32 := Scalar.addi c0_i32_29 v24
  v25.toNat
def k0_dev10 : Nat :=
  let c0_i32_32 : BitVec 32 := 0#32
  let c9_i32 : BitVec 32 := 9#32
  let c1_i32_31 : BitVec 32 := 1#32
  let v26 : BitVec 32 := Scalar.muli c9_i32 c1_i32_31
  let v27 : BitVec 32 := Scalar.addi c0_i32_32 v26
  v27.toNat
def k0_dev11 : Nat :=
  let c0_i32_35 : BitVec 32 := 0#32
  let c10_i32 : BitVec 32 := 10#32
  let c1_i32_34 : BitVec 32 := 1#32
  let v28 : BitVec 32 := Scalar.muli c10_i32 c1_i32_34
  let v29 : BitVec 32 := Scalar.addi c0_i32_35 v28
  v29.toNat
def k0_dev12 : Nat :=
  let c0_i32_38 : BitVec 32 := 0#32
  let c11_i32 : BitVec 32 := 11#32
  let c1_i32_37 : BitVec 32 := 1#32
  let v30 : BitVec 32 := Scalar.muli c11_i32 c1_i32_37
  let v31 : BitVec 32 := Scalar.addi c0_i32_38 v30
  v31.toNat
def k0_dev13 : Nat :=
  let c0_i32_41 : BitVec 32 := 0#32
  let c12_i32 : BitVec 32 := 12#32
  let c1_i32_40 : BitVec 32 := 1#32
  let v32 : BitVec 32 := Scalar.muli c12_i32 c1_i32_40
  let v33 : BitVec 32 := Scalar.addi c0_i32_41 v32
  v33.toNat
def k0_dev14 : Nat :=
  let c0_i32_44 : BitVec 32 := 0#32
  let c13_i32 : BitVec 32 := 13#32
  let c1_i32_43 : BitVec 32 := 1#32
  let v34 : BitVec 32 := Scalar.muli c13_i32 c1_i32_43
  let v35 : BitVec 32 := Scalar.addi c0_i32_44 v34
  v35.toNat
def k0_dev15 : Nat :=
  let c0_i32_47 : BitVec 32 := 0#32
  let c14_i32 : BitVec 32 := 14#32
  let c1_i32_46 : BitVec 32 := 1#32
  let v36 : BitVec 32 := Scalar.muli c14_i32 c1_i32_46
  let v37 : BitVec 32 := Scalar.addi c0_i32_47 v36
  v37.toNat
def k0_dev16 : Nat :=
  let c0_i32_50 : BitVec 32 := 0#32
  let c15_i32 : BitVec 32 := 15#32
  let c1_i32_49 : BitVec 32 := 1#32
  let v38 : BitVec 32 := Scalar.muli c15_i32 c1_i32_49
  let v39 : BitVec 32 := Scalar.addi c0_i32_50 v38
  v39.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_61 : BitVec 32 := 0#32
  let v59 : BitVec 1 := Scalar.cmpi .slt v2 c0_i32_61
  let v60 : BitVec 32 := Scalar.extui v59
  let c0_i32_62 : BitVec 32 := 0#32
  let v61 : BitVec 1 := Scalar.cmpi .ne v60 c0_i32_62
  v61

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_176 : BitVec 32 := 0#32
  let c0_i32_177 : BitVec 32 := 0#32
  ![v2.toNat, 0, 0]
def k0_dev17 : Nat :=
  let c0_i32_175 : BitVec 32 := 0#32
  let c0_i32_173 : BitVec 32 := 0#32
  let c1_i32_174 : BitVec 32 := 1#32
  let v259 : BitVec 32 := Scalar.muli c0_i32_173 c1_i32_174
  let v260 : BitVec 32 := Scalar.addi c0_i32_175 v259
  v260.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_63 : BitVec 32 := 1#32
  let v62 : BitVec 1 := Scalar.cmpi .slt v2 c1_i32_63
  let v63 : BitVec 32 := Scalar.extui v62
  let c0_i32_64 : BitVec 32 := 0#32
  let v64 : BitVec 1 := Scalar.cmpi .ne v63 c0_i32_64
  v64

def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_176 : BitVec 32 := 0#32
  let c0_i32_177 : BitVec 32 := 0#32
  ![v2.toNat, 0, 0]
def k0_dev18 : Nat :=
  let c0_i32_175 : BitVec 32 := 0#32
  let c1_i32_173 : BitVec 32 := 1#32
  let c1_i32_174 : BitVec 32 := 1#32
  let v259 : BitVec 32 := Scalar.muli c1_i32_173 c1_i32_174
  let v260 : BitVec 32 := Scalar.addi c0_i32_175 v259
  v260.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_65 : BitVec 32 := 2#32
  let v65 : BitVec 1 := Scalar.cmpi .slt v2 c2_i32_65
  let v66 : BitVec 32 := Scalar.extui v65
  let c0_i32_66 : BitVec 32 := 0#32
  let v67 : BitVec 1 := Scalar.cmpi .ne v66 c0_i32_66
  v67

def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_176 : BitVec 32 := 0#32
  let c0_i32_177 : BitVec 32 := 0#32
  ![v2.toNat, 0, 0]
def k0_dev19 : Nat :=
  let c0_i32_175 : BitVec 32 := 0#32
  let c2_i32_173 : BitVec 32 := 2#32
  let c1_i32_174 : BitVec 32 := 1#32
  let v259 : BitVec 32 := Scalar.muli c2_i32_173 c1_i32_174
  let v260 : BitVec 32 := Scalar.addi c0_i32_175 v259
  v260.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_67 : BitVec 32 := 3#32
  let v68 : BitVec 1 := Scalar.cmpi .slt v2 c3_i32_67
  let v69 : BitVec 32 := Scalar.extui v68
  let c0_i32_68 : BitVec 32 := 0#32
  let v70 : BitVec 1 := Scalar.cmpi .ne v69 c0_i32_68
  v70

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_176 : BitVec 32 := 0#32
  let c0_i32_177 : BitVec 32 := 0#32
  ![v2.toNat, 0, 0]
def k0_dev20 : Nat :=
  let c0_i32_175 : BitVec 32 := 0#32
  let c3_i32_173 : BitVec 32 := 3#32
  let c1_i32_174 : BitVec 32 := 1#32
  let v259 : BitVec 32 := Scalar.muli c3_i32_173 c1_i32_174
  let v260 : BitVec 32 := Scalar.addi c0_i32_175 v259
  v260.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_69 : BitVec 32 := 4#32
  let v71 : BitVec 1 := Scalar.cmpi .slt v2 c4_i32_69
  let v72 : BitVec 32 := Scalar.extui v71
  let c0_i32_70 : BitVec 32 := 0#32
  let v73 : BitVec 1 := Scalar.cmpi .ne v72 c0_i32_70
  v73

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_176 : BitVec 32 := 0#32
  let c0_i32_177 : BitVec 32 := 0#32
  ![v2.toNat, 0, 0]
def k0_dev21 : Nat :=
  let c0_i32_175 : BitVec 32 := 0#32
  let c4_i32_173 : BitVec 32 := 4#32
  let c1_i32_174 : BitVec 32 := 1#32
  let v259 : BitVec 32 := Scalar.muli c4_i32_173 c1_i32_174
  let v260 : BitVec 32 := Scalar.addi c0_i32_175 v259
  v260.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_71 : BitVec 32 := 5#32
  let v74 : BitVec 1 := Scalar.cmpi .slt v2 c5_i32_71
  let v75 : BitVec 32 := Scalar.extui v74
  let c0_i32_72 : BitVec 32 := 0#32
  let v76 : BitVec 1 := Scalar.cmpi .ne v75 c0_i32_72
  v76

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_176 : BitVec 32 := 0#32
  let c0_i32_177 : BitVec 32 := 0#32
  ![v2.toNat, 0, 0]
def k0_dev22 : Nat :=
  let c0_i32_175 : BitVec 32 := 0#32
  let c5_i32_173 : BitVec 32 := 5#32
  let c1_i32_174 : BitVec 32 := 1#32
  let v259 : BitVec 32 := Scalar.muli c5_i32_173 c1_i32_174
  let v260 : BitVec 32 := Scalar.addi c0_i32_175 v259
  v260.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_73 : BitVec 32 := 6#32
  let v77 : BitVec 1 := Scalar.cmpi .slt v2 c6_i32_73
  let v78 : BitVec 32 := Scalar.extui v77
  let c0_i32_74 : BitVec 32 := 0#32
  let v79 : BitVec 1 := Scalar.cmpi .ne v78 c0_i32_74
  v79

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_176 : BitVec 32 := 0#32
  let c0_i32_177 : BitVec 32 := 0#32
  ![v2.toNat, 0, 0]
def k0_dev23 : Nat :=
  let c0_i32_175 : BitVec 32 := 0#32
  let c6_i32_173 : BitVec 32 := 6#32
  let c1_i32_174 : BitVec 32 := 1#32
  let v259 : BitVec 32 := Scalar.muli c6_i32_173 c1_i32_174
  let v260 : BitVec 32 := Scalar.addi c0_i32_175 v259
  v260.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_75 : BitVec 32 := 7#32
  let v80 : BitVec 1 := Scalar.cmpi .slt v2 c7_i32_75
  let v81 : BitVec 32 := Scalar.extui v80
  let c0_i32_76 : BitVec 32 := 0#32
  let v82 : BitVec 1 := Scalar.cmpi .ne v81 c0_i32_76
  v82

def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_176 : BitVec 32 := 0#32
  let c0_i32_177 : BitVec 32 := 0#32
  ![v2.toNat, 0, 0]
def k0_dev24 : Nat :=
  let c0_i32_175 : BitVec 32 := 0#32
  let c7_i32_173 : BitVec 32 := 7#32
  let c1_i32_174 : BitVec 32 := 1#32
  let v259 : BitVec 32 := Scalar.muli c7_i32_173 c1_i32_174
  let v260 : BitVec 32 := Scalar.addi c0_i32_175 v259
  v260.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_77 : BitVec 32 := 8#32
  let v83 : BitVec 1 := Scalar.cmpi .slt v2 c8_i32_77
  let v84 : BitVec 32 := Scalar.extui v83
  let c0_i32_78 : BitVec 32 := 0#32
  let v85 : BitVec 1 := Scalar.cmpi .ne v84 c0_i32_78
  v85

def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_176 : BitVec 32 := 0#32
  let c0_i32_177 : BitVec 32 := 0#32
  ![v2.toNat, 0, 0]
def k0_dev25 : Nat :=
  let c0_i32_175 : BitVec 32 := 0#32
  let c8_i32_173 : BitVec 32 := 8#32
  let c1_i32_174 : BitVec 32 := 1#32
  let v259 : BitVec 32 := Scalar.muli c8_i32_173 c1_i32_174
  let v260 : BitVec 32 := Scalar.addi c0_i32_175 v259
  v260.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_79 : BitVec 32 := 9#32
  let v86 : BitVec 1 := Scalar.cmpi .slt v2 c9_i32_79
  let v87 : BitVec 32 := Scalar.extui v86
  let c0_i32_80 : BitVec 32 := 0#32
  let v88 : BitVec 1 := Scalar.cmpi .ne v87 c0_i32_80
  v88

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_176 : BitVec 32 := 0#32
  let c0_i32_177 : BitVec 32 := 0#32
  ![v2.toNat, 0, 0]
def k0_dev26 : Nat :=
  let c0_i32_175 : BitVec 32 := 0#32
  let c9_i32_173 : BitVec 32 := 9#32
  let c1_i32_174 : BitVec 32 := 1#32
  let v259 : BitVec 32 := Scalar.muli c9_i32_173 c1_i32_174
  let v260 : BitVec 32 := Scalar.addi c0_i32_175 v259
  v260.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_81 : BitVec 32 := 10#32
  let v89 : BitVec 1 := Scalar.cmpi .slt v2 c10_i32_81
  let v90 : BitVec 32 := Scalar.extui v89
  let c0_i32_82 : BitVec 32 := 0#32
  let v91 : BitVec 1 := Scalar.cmpi .ne v90 c0_i32_82
  v91

def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_176 : BitVec 32 := 0#32
  let c0_i32_177 : BitVec 32 := 0#32
  ![v2.toNat, 0, 0]
def k0_dev27 : Nat :=
  let c0_i32_175 : BitVec 32 := 0#32
  let c10_i32_173 : BitVec 32 := 10#32
  let c1_i32_174 : BitVec 32 := 1#32
  let v259 : BitVec 32 := Scalar.muli c10_i32_173 c1_i32_174
  let v260 : BitVec 32 := Scalar.addi c0_i32_175 v259
  v260.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_83 : BitVec 32 := 11#32
  let v92 : BitVec 1 := Scalar.cmpi .slt v2 c11_i32_83
  let v93 : BitVec 32 := Scalar.extui v92
  let c0_i32_84 : BitVec 32 := 0#32
  let v94 : BitVec 1 := Scalar.cmpi .ne v93 c0_i32_84
  v94

def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_176 : BitVec 32 := 0#32
  let c0_i32_177 : BitVec 32 := 0#32
  ![v2.toNat, 0, 0]
def k0_dev28 : Nat :=
  let c0_i32_175 : BitVec 32 := 0#32
  let c11_i32_173 : BitVec 32 := 11#32
  let c1_i32_174 : BitVec 32 := 1#32
  let v259 : BitVec 32 := Scalar.muli c11_i32_173 c1_i32_174
  let v260 : BitVec 32 := Scalar.addi c0_i32_175 v259
  v260.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_85 : BitVec 32 := 12#32
  let v95 : BitVec 1 := Scalar.cmpi .slt v2 c12_i32_85
  let v96 : BitVec 32 := Scalar.extui v95
  let c0_i32_86 : BitVec 32 := 0#32
  let v97 : BitVec 1 := Scalar.cmpi .ne v96 c0_i32_86
  v97

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_176 : BitVec 32 := 0#32
  let c0_i32_177 : BitVec 32 := 0#32
  ![v2.toNat, 0, 0]
def k0_dev29 : Nat :=
  let c0_i32_175 : BitVec 32 := 0#32
  let c12_i32_173 : BitVec 32 := 12#32
  let c1_i32_174 : BitVec 32 := 1#32
  let v259 : BitVec 32 := Scalar.muli c12_i32_173 c1_i32_174
  let v260 : BitVec 32 := Scalar.addi c0_i32_175 v259
  v260.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_87 : BitVec 32 := 13#32
  let v98 : BitVec 1 := Scalar.cmpi .slt v2 c13_i32_87
  let v99 : BitVec 32 := Scalar.extui v98
  let c0_i32_88 : BitVec 32 := 0#32
  let v100 : BitVec 1 := Scalar.cmpi .ne v99 c0_i32_88
  v100

def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_176 : BitVec 32 := 0#32
  let c0_i32_177 : BitVec 32 := 0#32
  ![v2.toNat, 0, 0]
def k0_dev30 : Nat :=
  let c0_i32_175 : BitVec 32 := 0#32
  let c13_i32_173 : BitVec 32 := 13#32
  let c1_i32_174 : BitVec 32 := 1#32
  let v259 : BitVec 32 := Scalar.muli c13_i32_173 c1_i32_174
  let v260 : BitVec 32 := Scalar.addi c0_i32_175 v259
  v260.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_89 : BitVec 32 := 14#32
  let v101 : BitVec 1 := Scalar.cmpi .slt v2 c14_i32_89
  let v102 : BitVec 32 := Scalar.extui v101
  let c0_i32_90 : BitVec 32 := 0#32
  let v103 : BitVec 1 := Scalar.cmpi .ne v102 c0_i32_90
  v103

def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_176 : BitVec 32 := 0#32
  let c0_i32_177 : BitVec 32 := 0#32
  ![v2.toNat, 0, 0]
def k0_dev31 : Nat :=
  let c0_i32_175 : BitVec 32 := 0#32
  let c14_i32_173 : BitVec 32 := 14#32
  let c1_i32_174 : BitVec 32 := 1#32
  let v259 : BitVec 32 := Scalar.muli c14_i32_173 c1_i32_174
  let v260 : BitVec 32 := Scalar.addi c0_i32_175 v259
  v260.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_91 : BitVec 32 := 15#32
  let v104 : BitVec 1 := Scalar.cmpi .slt v2 c15_i32_91
  let v105 : BitVec 32 := Scalar.extui v104
  let c0_i32_92 : BitVec 32 := 0#32
  let v106 : BitVec 1 := Scalar.cmpi .ne v105 c0_i32_92
  v106

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_176 : BitVec 32 := 0#32
  let c0_i32_177 : BitVec 32 := 0#32
  ![v2.toNat, 0, 0]
def k0_dev32 : Nat :=
  let c0_i32_175 : BitVec 32 := 0#32
  let c15_i32_173 : BitVec 32 := 15#32
  let c1_i32_174 : BitVec 32 := 1#32
  let v259 : BitVec 32 := Scalar.muli c15_i32_173 c1_i32_174
  let v260 : BitVec 32 := Scalar.addi c0_i32_175 v259
  v260.toNat
def k0_dev33 : Nat :=
  let c0_i32_175_r0 : BitVec 32 := 0#32
  let c0_i32_173_r0 : BitVec 32 := 0#32
  let c1_i32_174_r0 : BitVec 32 := 1#32
  let v260_r0 : BitVec 32 := Scalar.muli c0_i32_173_r0 c1_i32_174_r0
  let v261_r0 : BitVec 32 := Scalar.addi c0_i32_175_r0 v260_r0
  v261_r0.toNat
def k0_dev34 : Nat :=
  let c0_i32_179_r0 : BitVec 32 := 0#32
  let c1_i32_177_r0 : BitVec 32 := 1#32
  let c1_i32_178_r0 : BitVec 32 := 1#32
  let v262_r0 : BitVec 32 := Scalar.muli c1_i32_177_r0 c1_i32_178_r0
  let v263_r0 : BitVec 32 := Scalar.addi c0_i32_179_r0 v262_r0
  v263_r0.toNat
def k0_dev35 : Nat :=
  let c0_i32_183_r0 : BitVec 32 := 0#32
  let c2_i32_181_r0 : BitVec 32 := 2#32
  let c1_i32_182_r0 : BitVec 32 := 1#32
  let v264_r0 : BitVec 32 := Scalar.muli c2_i32_181_r0 c1_i32_182_r0
  let v265_r0 : BitVec 32 := Scalar.addi c0_i32_183_r0 v264_r0
  v265_r0.toNat
def k0_dev36 : Nat :=
  let c0_i32_187_r0 : BitVec 32 := 0#32
  let c3_i32_185_r0 : BitVec 32 := 3#32
  let c1_i32_186_r0 : BitVec 32 := 1#32
  let v266_r0 : BitVec 32 := Scalar.muli c3_i32_185_r0 c1_i32_186_r0
  let v267_r0 : BitVec 32 := Scalar.addi c0_i32_187_r0 v266_r0
  v267_r0.toNat
def k0_dev37 : Nat :=
  let c0_i32_191_r0 : BitVec 32 := 0#32
  let c4_i32_189_r0 : BitVec 32 := 4#32
  let c1_i32_190_r0 : BitVec 32 := 1#32
  let v268_r0 : BitVec 32 := Scalar.muli c4_i32_189_r0 c1_i32_190_r0
  let v269_r0 : BitVec 32 := Scalar.addi c0_i32_191_r0 v268_r0
  v269_r0.toNat
def k0_dev38 : Nat :=
  let c0_i32_195_r0 : BitVec 32 := 0#32
  let c5_i32_193_r0 : BitVec 32 := 5#32
  let c1_i32_194_r0 : BitVec 32 := 1#32
  let v270_r0 : BitVec 32 := Scalar.muli c5_i32_193_r0 c1_i32_194_r0
  let v271_r0 : BitVec 32 := Scalar.addi c0_i32_195_r0 v270_r0
  v271_r0.toNat
def k0_dev39 : Nat :=
  let c0_i32_199_r0 : BitVec 32 := 0#32
  let c6_i32_197_r0 : BitVec 32 := 6#32
  let c1_i32_198_r0 : BitVec 32 := 1#32
  let v272_r0 : BitVec 32 := Scalar.muli c6_i32_197_r0 c1_i32_198_r0
  let v273_r0 : BitVec 32 := Scalar.addi c0_i32_199_r0 v272_r0
  v273_r0.toNat
def k0_dev40 : Nat :=
  let c0_i32_203_r0 : BitVec 32 := 0#32
  let c7_i32_201_r0 : BitVec 32 := 7#32
  let c1_i32_202_r0 : BitVec 32 := 1#32
  let v274_r0 : BitVec 32 := Scalar.muli c7_i32_201_r0 c1_i32_202_r0
  let v275_r0 : BitVec 32 := Scalar.addi c0_i32_203_r0 v274_r0
  v275_r0.toNat
def k0_dev41 : Nat :=
  let c0_i32_207_r0 : BitVec 32 := 0#32
  let c8_i32_205_r0 : BitVec 32 := 8#32
  let c1_i32_206_r0 : BitVec 32 := 1#32
  let v276_r0 : BitVec 32 := Scalar.muli c8_i32_205_r0 c1_i32_206_r0
  let v277_r0 : BitVec 32 := Scalar.addi c0_i32_207_r0 v276_r0
  v277_r0.toNat
def k0_dev42 : Nat :=
  let c0_i32_211_r0 : BitVec 32 := 0#32
  let c9_i32_209_r0 : BitVec 32 := 9#32
  let c1_i32_210_r0 : BitVec 32 := 1#32
  let v278_r0 : BitVec 32 := Scalar.muli c9_i32_209_r0 c1_i32_210_r0
  let v279_r0 : BitVec 32 := Scalar.addi c0_i32_211_r0 v278_r0
  v279_r0.toNat
def k0_dev43 : Nat :=
  let c0_i32_215_r0 : BitVec 32 := 0#32
  let c10_i32_213_r0 : BitVec 32 := 10#32
  let c1_i32_214_r0 : BitVec 32 := 1#32
  let v280_r0 : BitVec 32 := Scalar.muli c10_i32_213_r0 c1_i32_214_r0
  let v281_r0 : BitVec 32 := Scalar.addi c0_i32_215_r0 v280_r0
  v281_r0.toNat
def k0_dev44 : Nat :=
  let c0_i32_219_r0 : BitVec 32 := 0#32
  let c11_i32_217_r0 : BitVec 32 := 11#32
  let c1_i32_218_r0 : BitVec 32 := 1#32
  let v282_r0 : BitVec 32 := Scalar.muli c11_i32_217_r0 c1_i32_218_r0
  let v283_r0 : BitVec 32 := Scalar.addi c0_i32_219_r0 v282_r0
  v283_r0.toNat
def k0_dev45 : Nat :=
  let c0_i32_223_r0 : BitVec 32 := 0#32
  let c12_i32_221_r0 : BitVec 32 := 12#32
  let c1_i32_222_r0 : BitVec 32 := 1#32
  let v284_r0 : BitVec 32 := Scalar.muli c12_i32_221_r0 c1_i32_222_r0
  let v285_r0 : BitVec 32 := Scalar.addi c0_i32_223_r0 v284_r0
  v285_r0.toNat
def k0_dev46 : Nat :=
  let c0_i32_227_r0 : BitVec 32 := 0#32
  let c13_i32_225_r0 : BitVec 32 := 13#32
  let c1_i32_226_r0 : BitVec 32 := 1#32
  let v286_r0 : BitVec 32 := Scalar.muli c13_i32_225_r0 c1_i32_226_r0
  let v287_r0 : BitVec 32 := Scalar.addi c0_i32_227_r0 v286_r0
  v287_r0.toNat
def k0_dev47 : Nat :=
  let c0_i32_231_r0 : BitVec 32 := 0#32
  let c14_i32_229_r0 : BitVec 32 := 14#32
  let c1_i32_230_r0 : BitVec 32 := 1#32
  let v288_r0 : BitVec 32 := Scalar.muli c14_i32_229_r0 c1_i32_230_r0
  let v289_r0 : BitVec 32 := Scalar.addi c0_i32_231_r0 v288_r0
  v289_r0.toNat
def k0_dev48 : Nat :=
  let c0_i32_235_r0 : BitVec 32 := 0#32
  let c15_i32_233_r0 : BitVec 32 := 15#32
  let c1_i32_234_r0 : BitVec 32 := 1#32
  let v290_r0 : BitVec 32 := Scalar.muli c15_i32_233_r0 c1_i32_234_r0
  let v291_r0 : BitVec 32 := Scalar.addi c0_i32_235_r0 v290_r0
  v291_r0.toNat
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_236_r0 : BitVec 32 := 0#32
  let v292_r0 : BitVec 1 := Scalar.cmpi .slt v2 c0_i32_236_r0
  let v293_r0 : BitVec 32 := Scalar.extui v292_r0
  let c0_i32_237_r0 : BitVec 32 := 0#32
  let v294_r0 : BitVec 1 := Scalar.cmpi .ne v293_r0 c0_i32_237_r0
  v294_r0

def k0_off33 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_273_r0 : BitVec 32 := 0#32
  let c0_i32_274_r0 : BitVec 32 := 0#32
  ![v2.toNat, 0, 0]
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_238_r0 : BitVec 32 := 1#32
  let v295_r0 : BitVec 1 := Scalar.cmpi .slt v2 c1_i32_238_r0
  let v296_r0 : BitVec 32 := Scalar.extui v295_r0
  let c0_i32_239_r0 : BitVec 32 := 0#32
  let v297_r0 : BitVec 1 := Scalar.cmpi .ne v296_r0 c0_i32_239_r0
  v297_r0

def k0_off34 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_273_r0 : BitVec 32 := 0#32
  let c0_i32_274_r0 : BitVec 32 := 0#32
  ![v2.toNat, 0, 0]
def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_240_r0 : BitVec 32 := 2#32
  let v298_r0 : BitVec 1 := Scalar.cmpi .slt v2 c2_i32_240_r0
  let v299_r0 : BitVec 32 := Scalar.extui v298_r0
  let c0_i32_241_r0 : BitVec 32 := 0#32
  let v300_r0 : BitVec 1 := Scalar.cmpi .ne v299_r0 c0_i32_241_r0
  v300_r0

def k0_off35 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_273_r0 : BitVec 32 := 0#32
  let c0_i32_274_r0 : BitVec 32 := 0#32
  ![v2.toNat, 0, 0]
def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_242_r0 : BitVec 32 := 3#32
  let v301_r0 : BitVec 1 := Scalar.cmpi .slt v2 c3_i32_242_r0
  let v302_r0 : BitVec 32 := Scalar.extui v301_r0
  let c0_i32_243_r0 : BitVec 32 := 0#32
  let v303_r0 : BitVec 1 := Scalar.cmpi .ne v302_r0 c0_i32_243_r0
  v303_r0

def k0_off36 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_273_r0 : BitVec 32 := 0#32
  let c0_i32_274_r0 : BitVec 32 := 0#32
  ![v2.toNat, 0, 0]
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_244_r0 : BitVec 32 := 4#32
  let v304_r0 : BitVec 1 := Scalar.cmpi .slt v2 c4_i32_244_r0
  let v305_r0 : BitVec 32 := Scalar.extui v304_r0
  let c0_i32_245_r0 : BitVec 32 := 0#32
  let v306_r0 : BitVec 1 := Scalar.cmpi .ne v305_r0 c0_i32_245_r0
  v306_r0

def k0_off37 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_273_r0 : BitVec 32 := 0#32
  let c0_i32_274_r0 : BitVec 32 := 0#32
  ![v2.toNat, 0, 0]
def k0_cond38 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_246_r0 : BitVec 32 := 5#32
  let v307_r0 : BitVec 1 := Scalar.cmpi .slt v2 c5_i32_246_r0
  let v308_r0 : BitVec 32 := Scalar.extui v307_r0
  let c0_i32_247_r0 : BitVec 32 := 0#32
  let v309_r0 : BitVec 1 := Scalar.cmpi .ne v308_r0 c0_i32_247_r0
  v309_r0

def k0_off38 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_273_r0 : BitVec 32 := 0#32
  let c0_i32_274_r0 : BitVec 32 := 0#32
  ![v2.toNat, 0, 0]
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_248_r0 : BitVec 32 := 6#32
  let v310_r0 : BitVec 1 := Scalar.cmpi .slt v2 c6_i32_248_r0
  let v311_r0 : BitVec 32 := Scalar.extui v310_r0
  let c0_i32_249_r0 : BitVec 32 := 0#32
  let v312_r0 : BitVec 1 := Scalar.cmpi .ne v311_r0 c0_i32_249_r0
  v312_r0

def k0_off39 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_273_r0 : BitVec 32 := 0#32
  let c0_i32_274_r0 : BitVec 32 := 0#32
  ![v2.toNat, 0, 0]
def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_250_r0 : BitVec 32 := 7#32
  let v313_r0 : BitVec 1 := Scalar.cmpi .slt v2 c7_i32_250_r0
  let v314_r0 : BitVec 32 := Scalar.extui v313_r0
  let c0_i32_251_r0 : BitVec 32 := 0#32
  let v315_r0 : BitVec 1 := Scalar.cmpi .ne v314_r0 c0_i32_251_r0
  v315_r0

def k0_off40 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_273_r0 : BitVec 32 := 0#32
  let c0_i32_274_r0 : BitVec 32 := 0#32
  ![v2.toNat, 0, 0]
def k0_cond41 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_252_r0 : BitVec 32 := 8#32
  let v316_r0 : BitVec 1 := Scalar.cmpi .slt v2 c8_i32_252_r0
  let v317_r0 : BitVec 32 := Scalar.extui v316_r0
  let c0_i32_253_r0 : BitVec 32 := 0#32
  let v318_r0 : BitVec 1 := Scalar.cmpi .ne v317_r0 c0_i32_253_r0
  v318_r0

def k0_off41 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_273_r0 : BitVec 32 := 0#32
  let c0_i32_274_r0 : BitVec 32 := 0#32
  ![v2.toNat, 0, 0]
def k0_cond42 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_254_r0 : BitVec 32 := 9#32
  let v319_r0 : BitVec 1 := Scalar.cmpi .slt v2 c9_i32_254_r0
  let v320_r0 : BitVec 32 := Scalar.extui v319_r0
  let c0_i32_255_r0 : BitVec 32 := 0#32
  let v321_r0 : BitVec 1 := Scalar.cmpi .ne v320_r0 c0_i32_255_r0
  v321_r0

def k0_off42 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_273_r0 : BitVec 32 := 0#32
  let c0_i32_274_r0 : BitVec 32 := 0#32
  ![v2.toNat, 0, 0]
def k0_cond43 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_256_r0 : BitVec 32 := 10#32
  let v322_r0 : BitVec 1 := Scalar.cmpi .slt v2 c10_i32_256_r0
  let v323_r0 : BitVec 32 := Scalar.extui v322_r0
  let c0_i32_257_r0 : BitVec 32 := 0#32
  let v324_r0 : BitVec 1 := Scalar.cmpi .ne v323_r0 c0_i32_257_r0
  v324_r0

def k0_off43 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_273_r0 : BitVec 32 := 0#32
  let c0_i32_274_r0 : BitVec 32 := 0#32
  ![v2.toNat, 0, 0]
def k0_cond44 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_258_r0 : BitVec 32 := 11#32
  let v325_r0 : BitVec 1 := Scalar.cmpi .slt v2 c11_i32_258_r0
  let v326_r0 : BitVec 32 := Scalar.extui v325_r0
  let c0_i32_259_r0 : BitVec 32 := 0#32
  let v327_r0 : BitVec 1 := Scalar.cmpi .ne v326_r0 c0_i32_259_r0
  v327_r0

def k0_off44 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_273_r0 : BitVec 32 := 0#32
  let c0_i32_274_r0 : BitVec 32 := 0#32
  ![v2.toNat, 0, 0]
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_260_r0 : BitVec 32 := 12#32
  let v328_r0 : BitVec 1 := Scalar.cmpi .slt v2 c12_i32_260_r0
  let v329_r0 : BitVec 32 := Scalar.extui v328_r0
  let c0_i32_261_r0 : BitVec 32 := 0#32
  let v330_r0 : BitVec 1 := Scalar.cmpi .ne v329_r0 c0_i32_261_r0
  v330_r0

def k0_off45 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_273_r0 : BitVec 32 := 0#32
  let c0_i32_274_r0 : BitVec 32 := 0#32
  ![v2.toNat, 0, 0]
def k0_cond46 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_262_r0 : BitVec 32 := 13#32
  let v331_r0 : BitVec 1 := Scalar.cmpi .slt v2 c13_i32_262_r0
  let v332_r0 : BitVec 32 := Scalar.extui v331_r0
  let c0_i32_263_r0 : BitVec 32 := 0#32
  let v333_r0 : BitVec 1 := Scalar.cmpi .ne v332_r0 c0_i32_263_r0
  v333_r0

def k0_off46 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_273_r0 : BitVec 32 := 0#32
  let c0_i32_274_r0 : BitVec 32 := 0#32
  ![v2.toNat, 0, 0]
def k0_cond47 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_264_r0 : BitVec 32 := 14#32
  let v334_r0 : BitVec 1 := Scalar.cmpi .slt v2 c14_i32_264_r0
  let v335_r0 : BitVec 32 := Scalar.extui v334_r0
  let c0_i32_265_r0 : BitVec 32 := 0#32
  let v336_r0 : BitVec 1 := Scalar.cmpi .ne v335_r0 c0_i32_265_r0
  v336_r0

def k0_off47 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_273_r0 : BitVec 32 := 0#32
  let c0_i32_274_r0 : BitVec 32 := 0#32
  ![v2.toNat, 0, 0]
def k0_cond48 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_266_r0 : BitVec 32 := 15#32
  let v337_r0 : BitVec 1 := Scalar.cmpi .slt v2 c15_i32_266_r0
  let v338_r0 : BitVec 32 := Scalar.extui v337_r0
  let c0_i32_267_r0 : BitVec 32 := 0#32
  let v339_r0 : BitVec 1 := Scalar.cmpi .ne v338_r0 c0_i32_267_r0
  v339_r0

def k0_off48 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_273_r0 : BitVec 32 := 0#32
  let c0_i32_274_r0 : BitVec 32 := 0#32
  ![v2.toNat, 0, 0]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x512 : Shape := ⟨2, ![8192, 512]⟩
abbrev S_ : Shape := ⟨0, ![]⟩
abbrev S512 : Shape := ⟨1, ![512]⟩
abbrev S1x512 : Shape := ⟨2, ![1, 512]⟩

abbrev nBuf : Space → Nat
  | .hbm => 21
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S_, .f32⟩
  | .hbm, ⟨2, _⟩ => ⟨S512, .f32⟩
  | .hbm, ⟨3, _⟩ => ⟨S_, .f32⟩
  | .hbm, ⟨4, _⟩ => ⟨S8192x512, .f32⟩
  | .hbm, ⟨5, _⟩ => ⟨S_, .i32⟩
  | .hbm, ⟨6, _⟩ => ⟨S8192x512, .f32⟩
  | .hbm, ⟨7, _⟩ => ⟨S_, .i32⟩
  | .hbm, ⟨8, _⟩ => ⟨S512, .f32⟩
  | .hbm, ⟨9, _⟩ => ⟨S8192x512, .f32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S1x512, .f32⟩
  | .hbm, ⟨14, _⟩ => ⟨S512, .f32⟩
  | .hbm, ⟨15, _⟩ => ⟨S512, .f32⟩
  | .hbm, ⟨16, _⟩ => ⟨S1x512, .f32⟩
  | .hbm, ⟨17, _⟩ => ⟨S_, .i32⟩
  | .hbm, ⟨18, _⟩ => ⟨S8192x512, .f32⟩
  | .hbm, ⟨19, _⟩ => ⟨S_, .i32⟩
  | .hbm, ⟨20, _⟩ => ⟨S_, .i32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_c : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_while0c_c_4 : Ref sig .tc := ⟨.hbm, 10, rfl⟩
abbrev main_while0c_v3 : Ref sig .tc := ⟨.hbm, 11, rfl⟩
abbrev main_while0b_call0_c : Ref sig .tc := ⟨.hbm, 12, rfl⟩
abbrev main_while0b_call0_v0 : Ref sig .tc := ⟨.hbm, 13, rfl⟩
abbrev main_while0b_v3 : Ref sig .tc := ⟨.hbm, 14, rfl⟩
abbrev main_while0b_v4 : Ref sig .tc := ⟨.hbm, 15, rfl⟩
abbrev main_while0b_call1_v0 : Ref sig .tc := ⟨.hbm, 16, rfl⟩
abbrev main_while0b_call1_c : Ref sig .tc := ⟨.hbm, 17, rfl⟩
abbrev main_while0b_v5 : Ref sig .tc := ⟨.hbm, 18, rfl⟩
abbrev main_while0b_c_4 : Ref sig .tc := ⟨.hbm, 19, rfl⟩
abbrev main_while0b_v6 : Ref sig .tc := ⟨.hbm, 20, rfl⟩

abbrev nD : Nat := 1
abbrev τ : Topo := Topo.v7x

variable {F : FTy → Type} [FloatOps F]

abbrev main_while0_count : Scf.Loop 32 := ⟨0#32, 8192#32, 1#32⟩
-- ==== Proof.ProdMath.lean ====
/- A product of extended reals as the exponential of a sum of logarithms of magnitudes, signed by the parity of the number of
   negative factors. -/
module

public import Idealize.ShloMosaic.PureOps.Ideal
public import Mathlib.Algebra.BigOperators.Group.Finset.Basic

@[expose] public section

noncomputable section

namespace Cert.SignedProd

open Idealize.ShloMosaic

/-- The logarithm of the magnitude. -/
def logAbs (x : EReal) : EReal := Ideal.log (max x (-x))

/-- One for a negative number, else zero. -/
def isNeg (x : EReal) : EReal := if x < 0 then 1 else 0

/-- The remainder of a count by two. -/
def mod2 (n : EReal) : EReal := n - ((2 : ℝ) : EReal) * Ideal.liftRound Int.floor (n * ((1 / 2 : ℝ) : EReal))

/-- A magnitude from its logarithm and a sign from the count of negative factors. -/
def signed (l n : EReal) : EReal := Ideal.exp l * (1 - ((2 : ℝ) : EReal) * mod2 n)

/-- The exponential turns a sum into a product, at the infinities too. -/
theorem exp_add (a b : EReal) : Ideal.exp (a + b) = Ideal.exp a * Ideal.exp b := by
  have hpos : ∀ r : ℝ, (0 : EReal) < (Real.exp r : EReal) := fun r => by exact_mod_cast Real.exp_pos r
  induction a with
  | bot => rw [EReal.bot_add, Ideal.exp_bot, zero_mul]
  | top =>
    induction b with
    | bot => rw [EReal.add_bot, Ideal.exp_bot, mul_zero]
    | top => rw [EReal.top_add_top, Ideal.exp_top, EReal.top_mul_top]
    | coe r => rw [EReal.top_add_coe, Ideal.exp_top, Ideal.exp_coe, EReal.top_mul_of_pos (hpos r)]
  | coe q =>
    induction b with
    | bot => rw [EReal.add_bot, Ideal.exp_bot, mul_zero]
    | top => rw [EReal.coe_add_top, Ideal.exp_top, Ideal.exp_coe, EReal.mul_top_of_pos (hpos q)]
    | coe r => rw [← EReal.coe_add, Ideal.exp_coe, Ideal.exp_coe, Ideal.exp_coe, Real.exp_add, EReal.coe_mul]

theorem exp_zero : Ideal.exp 0 = 1 := by
  rw [← EReal.coe_zero, Ideal.exp_coe, Real.exp_zero, EReal.coe_one]

theorem exp_sum {ι : Type*} (s : Finset ι) (f : ι → EReal) : Ideal.exp (∑ i ∈ s, f i) = ∏ i ∈ s, Ideal.exp (f i) := by
  classical
  induction s using Finset.induction_on with
  | empty => rw [Finset.sum_empty, Finset.prod_empty, exp_zero]
  | insert a s ha ih => rw [Finset.sum_insert ha, Finset.prod_insert ha, exp_add, ih]

/-- The exponential of a magnitude's logarithm is the magnitude: zero's logarithm is `⊥`, whose exponential is zero. -/
theorem exp_logAbs (x : EReal) : Ideal.exp (logAbs x) = max x (-x) := by
  unfold logAbs
  induction x with
  | bot => rw [EReal.neg_bot, max_eq_right bot_le, Ideal.log_top, Ideal.exp_top]
  | top => rw [max_eq_left le_top, Ideal.log_top, Ideal.exp_top]
  | coe r =>
    have h : max (r : EReal) (-(r : EReal)) = ((|r| : ℝ) : EReal) := by
      rw [← EReal.coe_neg, abs_eq_max_neg]; exact (EReal.coe_strictMono.monotone.map_max).symm
    rw [h, Ideal.log_coe]
    split_ifs with h0
    · rw [Ideal.exp_bot, le_antisymm h0 (abs_nonneg r), EReal.coe_zero]
    · rw [Ideal.exp_coe, Real.exp_log (not_le.mp h0)]

/-- A magnitude times its sign. -/
theorem abs_mul_sign (x : EReal) : max x (-x) * (if x < 0 then -1 else 1) = x := by
  split_ifs with h
  · have h' : x ≤ -x := h.le.trans (EReal.neg_nonneg.mpr h.le)
    rw [max_eq_right h', mul_neg, mul_one, neg_neg]
  · have h0 : 0 ≤ x := not_lt.mp h
    have h1 : -x ≤ 0 := by simpa using EReal.neg_le_neg_iff.mpr h0
    rw [max_eq_left (h1.trans h0), mul_one]

theorem sum_isNeg {ι : Type*} (s : Finset ι) (f : ι → EReal) :
    ∑ i ∈ s, isNeg (f i) = (((s.filter fun i => f i < 0).card : ℝ) : EReal) := by
  classical
  induction s using Finset.induction_on with
  | empty => simp
  | insert a s ha ih =>
    rw [Finset.sum_insert ha, ih, Finset.filter_insert]
    unfold isNeg
    split_ifs with h
    · rw [Finset.card_insert_of_notMem (fun h' => ha (Finset.mem_filter.mp h').1), Nat.cast_add, Nat.cast_one, EReal.coe_add,
        EReal.coe_one, add_comm]
    · rw [zero_add]

/-- The sign of a count of negative factors. -/
theorem sign_count (k : ℕ) : (1 : EReal) - ((2 : ℝ) : EReal) * mod2 ((k : ℝ) : EReal) = (((-1) ^ k : ℝ) : EReal) := by
  have e : mod2 ((k : ℝ) : EReal) = (((k % 2 : ℕ) : ℝ) : EReal) := by
    unfold mod2
    rw [← EReal.coe_mul, Ideal.liftRound_coe, ← EReal.coe_mul, ← EReal.coe_sub]
    have hf : ⌊(k : ℝ) * (1 / 2)⌋ = ((k / 2 : ℕ) : ℤ) := by
      rw [mul_one_div, Int.floor_eq_iff]
      have h1 := Nat.div_add_mod k 2
      have h2 : k % 2 < 2 := Nat.mod_lt _ (by decide)
      have h1' : (2 : ℝ) * ((k / 2 : ℕ) : ℝ) + ((k % 2 : ℕ) : ℝ) = k := by exact_mod_cast h1
      have h2' : ((k % 2 : ℕ) : ℝ) < 2 := by exact_mod_cast h2
      have h3' : (0 : ℝ) ≤ ((k % 2 : ℕ) : ℝ) := Nat.cast_nonneg _
      rw [Int.cast_natCast]
      exact ⟨by linarith, by linarith⟩
    rw [hf]
    have h1 : (2 : ℝ) * ((k / 2 : ℕ) : ℝ) + ((k % 2 : ℕ) : ℝ) = k := by exact_mod_cast Nat.div_add_mod k 2
    refine congrArg _ ?_
    rw [Int.cast_natCast]; linarith
  rw [e, ← EReal.coe_mul, ← EReal.coe_one, ← EReal.coe_sub]
  refine congrArg _ ?_
  rcases Nat.even_or_odd k with h | h
  · rw [Nat.even_iff.mp h, h.neg_one_pow]; norm_num
  · rw [Nat.odd_iff.mp h, h.neg_one_pow]; norm_num

theorem prod_sign {ι : Type*} (s : Finset ι) (f : ι → EReal) :
    (((-1) ^ (s.filter fun i => f i < 0).card : ℝ) : EReal) = ∏ i ∈ s, (if f i < 0 then (-1 : EReal) else 1) := by
  classical
  induction s using Finset.induction_on with
  | empty => simp
  | insert a s ha ih =>
    rw [Finset.prod_insert ha, ← ih, Finset.filter_insert]
    split_ifs with h
    · rw [Finset.card_insert_of_notMem (fun h' => ha (Finset.mem_filter.mp h').1), pow_succ, EReal.coe_mul, mul_comm,
        EReal.coe_neg, EReal.coe_one]
    · rw [one_mul]

/-- The signed exponential of the sums is the product. -/
theorem signed_sum {ι : Type*} (s : Finset ι) (f : ι → EReal) :
    signed (∑ i ∈ s, logAbs (f i)) (∑ i ∈ s, isNeg (f i)) = ∏ i ∈ s, f i := by
  unfold signed
  rw [exp_sum, sum_isNeg, sign_count, prod_sign, ← Finset.prod_mul_distrib]
  exact Finset.prod_congr rfl fun i _ => by rw [exp_logAbs, abs_mul_sign]

end Cert.SignedProd

end
-- ==== Proof.KernValue.lean ====
/- The payloads of the scan kernel over the extended reals, read at an index: column sums, the triangular product, the sum of
   the landed rows, and the signed exponentials. -/
module

public import proofs.«01_k».proof.Proof.ProdMath
public import proofs.«01_k».proof.Proof.Gen.KernelIdeal.Skeleton
public import Idealize.ShloMosaic.Lib.MatmulPlain
public import Idealize.ShloMosaic.Lib.ValueIdx
public import Idealize.ShloMosaic.Lib.IdealHost
public import Idealize.ShloMosaic.Lib.Pipeline.Value
public import Idealize.ShloMosaic.Lib.Pointwise
public import Idealize.ShloMosaic.Lib.WordCmp
public import Idealize.ShloMosaic.PureOps.Ideal.Laws

@[expose] public section

noncomputable section

namespace Cert.KernelIdeal.ScanValue

open Cert.KernelIdeal Cert.KernelIdeal.Gen Cert.SignedProd
open Idealize.ShloMosaic hiding ix1 ix2
open Idealize.ShloMosaic.ValueIdx (ix1 ix2)

/-! ## The constants -/

theorem ofBits_two : Ideal.ofBits .f32 0x40000000#32 = ((2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_zero : Ideal.ofBits .f32 0x00000000#32 = 0 := by simp [Ideal.ofBits, Ideal.ieee]

/-- The kernel's signed exponential of two numbers. -/
theorem signed_eq (l n : EReal) :
    Ideal.exp l * (Ideal.ofBits .f32 0x3F800000#32 - Ideal.ofBits .f32 0x40000000#32 *
      (n - Ideal.ofBits .f32 0x40000000#32 * Ideal.liftRound Int.floor (n * Ideal.ofBits .f32 0x3F000000#32))) = signed l n := by
  rw [Ideal.ofBits_one_f32, ofBits_two, ofBits_half]; rfl

/-! ## The input's logarithms and signs -/

theorem pay3_apply (x : Vec Ideal S512x512 .f32) (i : S512x512.Idx) : k0_pay3 x i = logAbs (x i) := by
  unfold k0_pay3 k0_pay2
  rw [shapeCast_self]
  rfl

theorem pay4_apply (x : Vec Ideal S512x512 .f32) (i : S512x512.Idx) : k0_pay4 x i = isNeg (x i) := by
  unfold k0_pay4 k0_pay2
  rw [shapeCast_self]
  show Scalar.select (Ideal.cmp .olt (x i) (Ideal.ofBits .f32 0x00000000#32)) (Ideal.ofBits .f32 0x3F800000#32)
    (Ideal.ofBits .f32 0x00000000#32) = _
  rw [ofBits_zero, Ideal.ofBits_one_f32]
  unfold isNeg Ideal.cmp Scalar.select
  by_cases h : x i < 0
  · simp [h]
  · simp [h]

/-! ## A column's sum over the rows -/

theorem colSum (v : FVec Ideal S512x512 .f32) (j : Fin 512) :
    multiReduction .add [0] S512 v 0x00000000#32 reduces_S512x512_S512 (.inl rfl) rfl (ix1 j) = ∑ k : Fin 512, v (ix2 k j) := by
  refine (Ideal.multiReduction_add_single (a := 0) v 0x00000000#32 reduces_S512x512_S512 (.inl rfl) rfl (ix1 j)).trans ?_
  refine Finset.sum_congr rfl fun k _ => congrArg v (funext fun a => ?_)
  match a with
  | ⟨0, _⟩ => rfl
  | ⟨1, _⟩ => rfl

/-- Column `j` of the left half of a row of two halves. -/
def lo (j : Fin 512) : Fin 1024 := ⟨j.val, by have := j.isLt; omega⟩
/-- Column `j` of its right half. -/
def hi (j : Fin 512) : Fin 1024 := ⟨512 + j.val, by have := j.isLt; omega⟩

/-- Two blocks side by side, read in the left one. -/
theorem beside_lo {R : ℕ} (a b : FVec Ideal ⟨2, ![R, 512]⟩ .f32)
    (h : Shape.Concatenates [⟨2, ![R, 512]⟩, ⟨2, ![R, 512]⟩] ⟨2, ![R, 1024]⟩ 1) (r : Fin R) (j : Fin 512) :
    concatenate ⟨2, ![R, 1024]⟩ 1 [⟨⟨2, ![R, 512]⟩, a⟩, ⟨⟨2, ![R, 512]⟩, b⟩] h (ix2 r (lo j)) = a (ix2 r j) := by
  refine concatenate_pair_apply_left 1 a b h (ix2 r (lo j)) rfl _ fun d => ?_
  match d with
  | ⟨0, _⟩ => rfl
  | ⟨1, _⟩ => rfl

/-- The same read in the right one. -/
theorem beside_hi {R : ℕ} (a b : FVec Ideal ⟨2, ![R, 512]⟩ .f32)
    (h : Shape.Concatenates [⟨2, ![R, 512]⟩, ⟨2, ![R, 512]⟩] ⟨2, ![R, 1024]⟩ 1) (r : Fin R) (j : Fin 512) :
    concatenate ⟨2, ![R, 1024]⟩ 1 [⟨⟨2, ![R, 512]⟩, a⟩, ⟨⟨2, ![R, 512]⟩, b⟩] h (ix2 r (hi j)) = b (ix2 r j) := by
  refine concatenate_pair_apply_right 1 a b h (ix2 r (hi j)) rfl rfl _ (fun d hd => ?_) (Nat.add_comm _ _)
  match d with
  | ⟨0, _⟩ => rfl
  | ⟨1, _⟩ => exact absurd rfl hd

/-- A row laid out as the one row of a block. -/
theorem asRow (v : FVec Ideal S512 .f32) (j : Fin 512) : shapeCast S1x512 v shapeCasts_S512_S1x512 (ix2 (0 : Fin 1) j) = v (ix1 j) := by
  refine (shapeCast_addUnit_apply ![512] v _ _).trans (congrArg v (funext fun d => ?_))
  match d with
  | ⟨0, _⟩ => rfl

/-- Every row of the totals is the row of totals. -/
theorem totRow (w : FVec Ideal S1x1024 .f32) (a : Fin 8) (q : Fin 1024) :
    shapeCast S8x1024 (broadcastTo S8x1024 (shapeCast S1x1024 w shapeCasts_S1x1024_S1x1024) broadcasts_S1x1024_S8x1024)
      shapeCasts_S8x1024_S8x1024 (ix2 a q) = w (ix2 (0 : Fin 1) q) := by
  rw [shapeCast_self, shapeCast_self]
  refine broadcastTo_apply _ _ _ _ fun d => ?_
  match d with
  | ⟨0, _⟩ => rfl
  | ⟨1, _⟩ => rfl

theorem pay5_lo (x : Vec Ideal S512x512 .f32) (a : Fin 8) (j : Fin 512) :
    k0_pay5 x (ix2 a (lo j)) = ∑ k : Fin 512, logAbs (x (ix2 k j)) := by
  unfold k0_pay5
  refine (totRow _ a (lo j)).trans ?_
  rw [beside_lo, asRow, colSum]
  exact Finset.sum_congr rfl fun k _ => pay3_apply x _

theorem pay5_hi (x : Vec Ideal S512x512 .f32) (a : Fin 8) (j : Fin 512) :
    k0_pay5 x (ix2 a (hi j)) = ∑ k : Fin 512, isNeg (x (ix2 k j)) := by
  unfold k0_pay5
  refine (totRow _ a (hi j)).trans ?_
  rw [beside_hi, asRow, colSum]
  exact Finset.sum_congr rfl fun k _ => pay4_apply x _

/-! ## The triangular product -/

/-- The triangle of ones on and below the diagonal. -/
def tri (r k : Fin 512) : EReal := if k ≤ r then 1 else 0

theorem sge_iff (r k : Fin 512) : IntOp.cmpi .sge (BitVec.ofNat 32 r.val) (BitVec.ofNat 32 k.val) = BitVec.ofBool (decide (k ≤ r)) := by
  rw [WordCmp.cmpi_sge_ofNat (by have := r.isLt; omega) (by have := k.isLt; omega)]
  rfl

theorem tri_apply (r k : Fin 512) :
    select (cmpi .sge (iota .tc S512x512 32 [0] iota_S512x512_d0_w32) (iota .tc S512x512 32 [1] iota_S512x512_d1_w32))
      (broadcast S512x512 (Scalar.ofBits .f32 0x3F800000#32 : Ideal .f32)) (broadcast S512x512 (Scalar.ofBits .f32 0x00000000#32 : Ideal .f32))
      (ix2 r k) = tri r k := by
  show Scalar.select (IntOp.cmpi .sge (iota .tc S512x512 32 [0] iota_S512x512_d0_w32 (ix2 r k))
    (iota .tc S512x512 32 [1] iota_S512x512_d1_w32 (ix2 r k))) (Ideal.ofBits .f32 0x3F800000#32)
    (Ideal.ofBits .f32 0x00000000#32) = _
  rw [iota_single_apply, iota_single_apply, sge_iff, ofBits_zero, Ideal.ofBits_one_f32]
  unfold tri Scalar.select
  by_cases h : k ≤ r
  · simp [h]
  · simp [h]

theorem triProd (t : FVec Ideal S512x512 .f32) (w : FVec Ideal S512x1024 .f32) (r : Fin 512) (q : Fin 1024) :
    matmul dot_S512x512_S512x1024_S512x1024_1_0_0_1_n_n none t w (constant S512x1024 .f32 0x00000000#32) (ix2 r q)
      = ∑ k : Fin 512, t (ix2 r k) * w (ix2 k q) := by
  refine (Ideal.matmul_plain_apply (M := 512) (K := 512) (N := 1024) none t w (constant S512x1024 .f32 0x00000000#32) r q).trans ?_
  rw [constant_apply, show (FloatOps.ofBits .f32 0#32 : Ideal .f32) = (0 : EReal) from ofBits_zero, zero_add]

theorem half_lo (w : FVec Ideal S512x1024 .f32) (r j : Fin 512) :
    extractStridedSlice S512x512 ![0, 0] w slices_S512x1024_o0_0_S512x512 (ix2 r j) = w (ix2 r (lo j)) := by
  refine extractStridedSlice_apply _ _ _ _ _ fun d => ?_
  match d with
  | ⟨0, _⟩ => exact (Nat.zero_add _).symm
  | ⟨1, _⟩ => exact (Nat.zero_add _).symm

theorem half_hi (w : FVec Ideal S512x1024 .f32) (r j : Fin 512) :
    extractStridedSlice S512x512 ![0, 512] w slices_S512x1024_o0_512_S512x512 (ix2 r j) = w (ix2 r (hi j)) := by
  refine extractStridedSlice_apply _ _ _ _ _ fun d => ?_
  match d with
  | ⟨0, _⟩ => exact (Nat.zero_add _).symm
  | ⟨1, _⟩ => rfl

theorem pay6_apply (a b : FVec Ideal S512x512 .f32) (r j : Fin 512) :
    k0_pay6 a b (ix2 r j) = signed (∑ k : Fin 512, tri r k * a (ix2 k j)) (∑ k : Fin 512, tri r k * b (ix2 k j)) := by
  rw [← signed_eq]
  have hl := (half_lo (matmul dot_S512x512_S512x1024_S512x1024_1_0_0_1_n_n none _
      (concatenate S512x1024 1 [⟨S512x512, a⟩, ⟨S512x512, b⟩] concatenates_S512x512_S512x512_S512x1024_d1)
      (constant S512x1024 .f32 0x00000000#32)) r j).trans (triProd (select (cmpi .sge (iota .tc S512x512 32 [0] iota_S512x512_d0_w32)
        (iota .tc S512x512 32 [1] iota_S512x512_d1_w32)) (broadcast S512x512 (Scalar.ofBits .f32 0x3F800000#32 : Ideal .f32))
        (broadcast S512x512 (Scalar.ofBits .f32 0x00000000#32 : Ideal .f32))) _ r (lo j))
  have hh := (half_hi (matmul dot_S512x512_S512x1024_S512x1024_1_0_0_1_n_n none _
      (concatenate S512x1024 1 [⟨S512x512, a⟩, ⟨S512x512, b⟩] concatenates_S512x512_S512x512_S512x1024_d1)
      (constant S512x1024 .f32 0x00000000#32)) r j).trans (triProd (select (cmpi .sge (iota .tc S512x512 32 [0] iota_S512x512_d0_w32)
        (iota .tc S512x512 32 [1] iota_S512x512_d1_w32)) (broadcast S512x512 (Scalar.ofBits .f32 0x3F800000#32 : Ideal .f32))
        (broadcast S512x512 (Scalar.ofBits .f32 0x00000000#32 : Ideal .f32))) _ r (hi j))
  have el : ∀ k : Fin 512, _ := fun k => congr (congrArg HMul.hMul (tri_apply r k)) (beside_lo a b concatenates_S512x512_S512x512_S512x1024_d1 k j)
  have eh : ∀ k : Fin 512, _ := fun k => congr (congrArg HMul.hMul (tri_apply r k)) (beside_hi a b concatenates_S512x512_S512x512_S512x1024_d1 k j)
  rw [Finset.sum_congr rfl fun k _ => el k] at hl
  rw [Finset.sum_congr rfl fun k _ => eh k] at hh
  rw [← hl, ← hh]
  rfl

/-! ## The landed rows -/

/-- The row a landed block is read at. -/
def landedRow (L : FVec Ideal S1x8x1024 .f32) (q : Fin 1024) : EReal :=
  extractStridedSlice S1x1024 ![7, 0] (shapeCast S8x1024 L shapeCasts_S1x8x1024_S8x1024) slices_S8x1024_o7_0_S1x1024 (ix2 (0 : Fin 1) q)

theorem landedRow_eq (u : FVec Ideal S8x1024 .f32) (h : Shape.ShapeCasts S8x1024 S1x8x1024) (q : Fin 1024) :
    landedRow (shapeCast S1x8x1024 u h) q = u (ix2 (7 : Fin 8) q) := by
  unfold landedRow
  rw [shapeCast_shapeCast]
  refine extractStridedSlice_apply _ _ _ _ _ fun d => ?_
  match d with
  | ⟨0, _⟩ => rfl
  | ⟨1, _⟩ => exact (Nat.zero_add _).symm

theorem row_lo (w : FVec Ideal S1x1024 .f32) (j : Fin 512) :
    extractStridedSlice S1x512 ![0, 0] w slices_S1x1024_o0_0_S1x512 (ix2 (0 : Fin 1) j) = w (ix2 (0 : Fin 1) (lo j)) := by
  refine extractStridedSlice_apply _ _ _ _ _ fun d => ?_
  match d with
  | ⟨0, _⟩ => rfl
  | ⟨1, _⟩ => exact (Nat.zero_add _).symm

theorem row_hi (w : FVec Ideal S1x1024 .f32) (j : Fin 512) :
    extractStridedSlice S1x512 ![0, 512] w slices_S1x1024_o0_512_S1x512 (ix2 (0 : Fin 1) j) = w (ix2 (0 : Fin 1) (hi j)) := by
  refine extractStridedSlice_apply _ _ _ _ _ fun d => ?_
  match d with
  | ⟨0, _⟩ => rfl
  | ⟨1, _⟩ => rfl

theorem everyRow (w : FVec Ideal S1x512 .f32) (r j : Fin 512) :
    broadcastTo S512x512 w broadcasts_S1x512_S512x512 (ix2 r j) = w (ix2 (0 : Fin 1) j) := by
  refine broadcastTo_apply _ _ _ _ fun d => ?_
  match d with
  | ⟨0, _⟩ => rfl
  | ⟨1, _⟩ => rfl

/-- The sum of what the sixteen slots hold, as the kernel adds it up. -/
def slotSum (L : Fin 16 → FVec Ideal S1x8x1024 .f32) : FVec Ideal S1x1024 .f32 :=
  addf (addf (addf (k0_pay8 (k0_pay7 (L 0) (L 1) (L 2) (L 3) (L 4)) (L 5) (L 6) (L 7) (L 8) (L 9) (L 10) (L 11) (L 12)) (k0_pay9 (L 13)))
    (extractStridedSlice S1x1024 ![7, 0] (shapeCast S8x1024 (L 14) shapeCasts_S1x8x1024_S8x1024) slices_S8x1024_o7_0_S1x1024))
    (extractStridedSlice S1x1024 ![7, 0] (shapeCast S8x1024 (L 15) shapeCasts_S1x8x1024_S8x1024) slices_S8x1024_o7_0_S1x1024)

theorem slotSum_apply (L : Fin 16 → FVec Ideal S1x8x1024 .f32) (q : Fin 1024) :
    slotSum L (ix2 (0 : Fin 1) q) = ∑ j : Fin 16, landedRow (L j) q := by
  have h : slotSum L (ix2 (0 : Fin 1) q) = (Ideal.ofBits .f32 0x00000000#32 : EReal) + landedRow (L 0) q + landedRow (L 1) q
      + landedRow (L 2) q + landedRow (L 3) q + landedRow (L 4) q + landedRow (L 5) q + landedRow (L 6) q + landedRow (L 7) q
      + landedRow (L 8) q + landedRow (L 9) q + landedRow (L 10) q + landedRow (L 11) q + landedRow (L 12) q + landedRow (L 13) q
      + landedRow (L 14) q + landedRow (L 15) q := rfl
  rw [h, ofBits_zero]
  simp only [Fin.sum_univ_castSucc, Fin.sum_univ_zero]
  rfl

theorem pay10_apply (a : FVec Ideal S512x512 .f32) (L : Fin 16 → FVec Ideal S1x8x1024 .f32) (r j : Fin 512) :
    k0_pay10 a (k0_pay8 (k0_pay7 (L 0) (L 1) (L 2) (L 3) (L 4)) (L 5) (L 6) (L 7) (L 8) (L 9) (L 10) (L 11) (L 12)) (k0_pay9 (L 13))
      (L 14) (L 15) (ix2 r j)
      = a (ix2 r j) * signed (∑ d : Fin 16, landedRow (L d) (lo j)) (∑ d : Fin 16, landedRow (L d) (hi j)) := by
  rw [← signed_eq, ← slotSum_apply, ← slotSum_apply, ← row_lo (slotSum L), ← row_hi (slotSum L)]
  refine congrArg (a (ix2 r j) * ·) ((everyRow _ r j).trans ?_)
  rfl

end Cert.KernelIdeal.ScanValue

end
-- ==== Proof.IdealProto.lean ====
/- The communication of the scan kernel as cells with duties, for the idealized program: who signals whom, what each
   signal or transfer hands over, and what a device has in hand between two steps of the body. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.ShareLeaves
public import Idealize.ShloMosaic.Lib.Ring
public import Idealize.ShloMosaic.Lib.Tactic

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-- No loop of the kernel has a variant. -/
abbrev 𝒱₀ : Variants := Variants.none

/-! ## Buffers, slots and cells -/

abbrev xM : Memref sig .tc .vmem S512x512 .f32 := Memref.whole cc0_stg0_0
abbrev oM : Memref sig .tc .vmem S512x512 .f32 := Memref.whole cc0_stg1_0
abbrev commM : Memref sig .tc .vmem S16x8x1024 .f32 := Memref.whole cc0_scratch0
abbrev sendM : Memref sig .tc .vmem S8x1024 .f32 := Memref.whole cc0_scratch1
abbrev sendS : DmaSems sig S16 := cc0_scratch2
abbrev recvS : DmaSems sig S16 := cc0_scratch3

theorem slot_inb (j : Fin 16) : ∀ a, (![j.val, 0, 0] : Fin 3 → Nat) a + S1x8x1024.size a ≤ S16x8x1024.size a := by
  revert j; decide

/-- The rectangle of slot `j` of the landing buffer, and the slot itself. -/
abbrev slotR (j : Fin 16) : Rect S16x8x1024 := Rect.unit (s := S16x8x1024) ![j.val, 0, 0] S1x8x1024.size (slot_inb j)
abbrev slotM (j : Fin 16) : Memref sig .tc .vmem S8x1024 .f32 :=
  (commM.slice (slotR j) (fun _ => rfl)).squeeze S8x1024 squeezes_S1x8x1024_S8x1024

/-- The barrier's semaphore, the closing handshake's, and the transfers' two families. -/
abbrev barS : Sem sig := (SemArray.scalar (sig.barrier 0 rfl) : Sems sig S_).sem
abbrev endS : Sem sig := cc0_scoped0.sem
def sendSem (j : Fin 16) : DmaSem sig := ⟨2 + j.val, by have := j.isLt; show 2 + j.val < 34; omega⟩
def recvSem (j : Fin 16) : DmaSem sig := ⟨18 + j.val, by have := j.isLt; show 18 + j.val < 34; omega⟩

abbrev barCell (c : Dev nD) : GSem nD τ sig := ((c : Thread nD τ), .reg barS)
abbrev endCell (c : Dev nD) : GSem nD τ sig := ((c : Thread nD τ), .reg endS)
abbrev sendCell (c : Dev nD) (j : Fin 16) : GSem nD τ sig := ((c : Thread nD τ), .dma (sendSem j))
abbrev recvCell (c : Dev nD) (j : Fin 16) : GSem nD τ sig := ((c : Thread nD τ), .dma (recvSem j))

theorem sendSem_val (j : Fin 16) : (sendSem j).val = 2 + j.val := rfl
theorem recvSem_val (j : Fin 16) : (recvSem j).val = 18 + j.val := rfl
theorem sendSem_ge (j : Fin 16) : ¬(sendSem j).val < 2 := by rw [sendSem_val]; omega
theorem sendSem_lt (j : Fin 16) : (sendSem j).val < 18 := by rw [sendSem_val]; have := j.isLt; omega
theorem recvSem_ge (j : Fin 16) : ¬(recvSem j).val < 2 := by rw [recvSem_val]; omega
theorem recvSem_ge' (j : Fin 16) : ¬(recvSem j).val < 18 := by rw [recvSem_val]; omega

theorem barS_ne_endS : barS ≠ endS := by decide

/-- What one transfer of a slot credits. -/
abbrev N : ℕ := (sendM : Memref sig .tc .vmem S8x1024 .f32).view.dmaCredit
theorem N_pos : 0 < N := View.dmaCredit_pos _ (by decide)

/-! ## Contents -/

/-- What a device's input staging buffer holds when the body runs. -/
def xstg (c : Dev nD) : (cc0_stg0_0 : Ref sig .tc).ty.Contents (Elt F) :=
  (win0_0.blk (0 : Fin 1)).view.read (Elt F) ((s₀ m ρ).mem ((c : Thread nD τ).loc main_arg0))

/-- The totals device `c` sends: eight copies of the row of its column sums. -/
def tot (c : Dev nD) : S8x1024.Idx → Elt F .f32 := k0_pay5 (xstg m ρ c)

/-- What slot `j` reads after the landing buffer is zeroed. -/
def zero (j : Fin 16) : S8x1024.Idx → Elt F .f32 := (slotM j).view.read (Elt F) (k0_pay1 (F := F))

/-- What slot `j` of device `c` holds once everything has landed: the totals of device `j` if it comes before, zeros
    otherwise. -/
def slotVal (c : Dev nD) (j : Fin 16) : S8x1024.Idx → Elt F .f32 := if j.val < c.val then tot m ρ j else zero j

/-- Slot `j` of device `c` holding `V`. -/
def slot (c : Dev nD) (j : Fin 16) (V : S8x1024.Idx → Elt F .f32) : sProp 𝕄 := owns (c : Thread nD τ) (slotM j) fullShare V

/-- The `j`-th of sixteen shares of the send buffer of device `c` holding its totals. -/
def piece (c : Dev nD) (j : Fin 16) : sProp 𝕄 :=
  (sendM : Memref sig .tc .vmem S8x1024 .f32).view.loc (c : Thread nD τ) ↦[(sendM : Memref sig .tc .vmem S8x1024 .f32).view.set]{ShareLeaves.leaf 4 fullShare j} tot m ρ c

omit [FloatOps F] in
instance slot_storable (c : Dev nD) (j : Fin 16) (V) : BI.Storable (upEmb : UEmb _ 𝕄) (slot (F := F) c j V) := by unfold slot owns; infer_instance
instance piece_storable (c : Dev nD) (j : Fin 16) : BI.Storable (upEmb : UEmb _ 𝕄) (piece (F := F) m ρ c j) := by unfold piece; infer_instance

/-! ## The schedule: one round per cell -/

/-- What device `p`'s signal to device `c`'s barrier hands over: slot `c` of `p`, if `p` comes after `c`. -/
def barPay (c p : Dev nD) : sProp 𝕄 := if c.val < p.val then iprop(∃ V, slot (F := F) p c V) else iprop(emp)

/-- The number of a cell within its family. -/
def nth (n : ℕ) : Fin 16 := ⟨n % 16, Nat.mod_lt _ (by decide)⟩
theorem nth_send (j : Fin 16) : nth (2 + j.val - 2) = j := Fin.ext (by have := j.isLt; show (2 + j.val - 2) % 16 = j.val; omega)
theorem nth_recv (j : Fin 16) : nth (18 + j.val - 18) = j := Fin.ext (by have := j.isLt; show (18 + j.val - 18) % 16 = j.val; omega)

def dutiesOf (c : Dev nD) : SemLoc sig → Finset (Dev nD)
  | .reg _ => Finset.univ
  | .dma q => if q.val < 2 then ∅ else if q.val < 18 then (if c.val < q.val - 2 then {c} else ∅)
      else (if q.val - 18 < c.val then {c} else ∅)

def payloadOf (c p : Dev nD) : SemLoc sig → sProp 𝕄
  | .reg s => if s = barS then barPay c p else iprop(emp)
  | .dma q => if q.val < 2 then iprop(emp) else if q.val < 18 then piece m ρ c (nth (q.val - 2))
      else slot c (nth (q.val - 18)) (tot m ρ (nth (q.val - 18)))

def amountOf' : SemLoc sig → ℕ
  | .reg _ => 1
  | .dma _ => N

def rd : Rounds.Schedule (GSem nD τ sig) (Dev nD) 𝕄 where
  duties g r := if r = 0 ∧ g.1.2 = .tc then dutiesOf g.1.1 g.2 else ∅
  unitless _ := False
  amount g _ _ := amountOf' g.2
  payload g _ p := payloadOf m ρ g.1.1 p g.2
  amount_pos g _ _ _ := by
    obtain ⟨t, s⟩ := g
    cases s
    · exact Nat.one_pos
    · exact N_pos

instance rd_payload_storable (g : GSem nD τ sig) (r : ℕ) (d : Dev nD) :
    BI.Storable (upEmb : UEmb _ 𝕄) ((rd (F := F) m ρ).payload g r d) := by
  obtain ⟨t, s⟩ := g
  show BI.Storable upEmb (payloadOf m ρ t.1 d s)
  cases s <;> simp only [payloadOf, barPay] <;> (repeat' split) <;> infer_instance

section Sched
variable (c p : Dev nD) (j : Fin 16)

theorem duties_zero (sm : SemLoc sig) : (rd (F := F) m ρ).duties ((c : Thread nD τ), sm) 0 = dutiesOf c sm :=
  show (if (0 : ℕ) = 0 ∧ (((c : Thread nD τ), sm) : GSem nD τ sig).1.2 = .tc then dutiesOf c sm else ∅) = _ from if_pos ⟨rfl, rfl⟩
theorem duties_later (g : GSem nD τ sig) : ∀ r, 1 ≤ r → (rd (F := F) m ρ).duties g r = ∅ :=
  fun r hr => if_neg fun h => by omega
theorem duties_bar : (rd (F := F) m ρ).duties (barCell c) 0 = Finset.univ := duties_zero m ρ c _
theorem duties_end : (rd (F := F) m ρ).duties (endCell c) 0 = Finset.univ := duties_zero m ρ c _
theorem duties_send : (rd (F := F) m ρ).duties (sendCell c j) 0 = if c.val < j.val then {c} else ∅ := by
  refine (duties_zero m ρ c _).trans ((if_neg (sendSem_ge j)).trans ((if_pos (sendSem_lt j)).trans ?_))
  rw [sendSem_val, Nat.add_sub_cancel_left]
theorem duties_recv : (rd (F := F) m ρ).duties (recvCell c j) 0 = if j.val < c.val then {c} else ∅ := by
  refine (duties_zero m ρ c _).trans ((if_neg (recvSem_ge j)).trans ((if_neg (recvSem_ge' j)).trans ?_))
  rw [recvSem_val, Nat.add_sub_cancel_left]

theorem amount_bar : (rd (F := F) m ρ).amount (barCell c) 0 p = 1 := rfl
theorem amount_end : (rd (F := F) m ρ).amount (endCell c) 0 p = 1 := rfl
theorem amount_send : (rd (F := F) m ρ).amount (sendCell c j) 0 p = N := rfl
theorem amount_recv : (rd (F := F) m ρ).amount (recvCell c j) 0 p = N := rfl

theorem payload_bar : (rd (F := F) m ρ).payload (barCell c) 0 p = barPay c p :=
  show (if barS = barS then barPay c p else iprop(emp)) = _ from if_pos rfl
theorem payload_end : (rd (F := F) m ρ).payload (endCell c) 0 p = iprop(emp) :=
  show (if endS = barS then barPay c p else iprop(emp)) = _ from if_neg barS_ne_endS.symm
theorem payload_send : (rd (F := F) m ρ).payload (sendCell c j) 0 p = piece m ρ c j := by
  refine (if_neg (sendSem_ge j)).trans ((if_pos (sendSem_lt j)).trans ?_)
  rw [sendSem_val, nth_send]
theorem payload_recv : (rd (F := F) m ρ).payload (recvCell c j) 0 p = slot c j (tot m ρ j) := by
  refine (if_neg (recvSem_ge j)).trans ((if_neg (recvSem_ge' j)).trans ?_)
  rw [recvSem_val, nth_recv]

theorem expect_bar : (rd (F := F) m ρ).expect (barCell c) 0 = 16 := by
  unfold Schedule.expect Schedule.amountOf
  rw [duties_bar, Finset.sum_congr rfl fun d _ => amount_bar m ρ c d, Finset.sum_const, Finset.card_univ, smul_eq_mul]; rfl
theorem expect_end : (rd (F := F) m ρ).expect (endCell c) 0 = 16 := by
  unfold Schedule.expect Schedule.amountOf
  rw [duties_end, Finset.sum_congr rfl fun d _ => amount_end m ρ c d, Finset.sum_const, Finset.card_univ, smul_eq_mul]; rfl
theorem expect_send (h : c.val < j.val) : (rd (F := F) m ρ).expect (sendCell c j) 0 = N := by
  unfold Schedule.expect Schedule.amountOf; rw [duties_send, if_pos h, Finset.sum_singleton, amount_send]
theorem expect_recv (h : j.val < c.val) : (rd (F := F) m ρ).expect (recvCell c j) 0 = N := by
  unfold Schedule.expect Schedule.amountOf; rw [duties_recv, if_pos h, Finset.sum_singleton, amount_recv]

/-- A send or receive cell a device does not use has no duty in any round. -/
theorem duties_send_none (h : ¬c.val < j.val) : ∀ r, 0 ≤ r → (rd (F := F) m ρ).duties (sendCell c j) r = ∅ := by
  intro r _
  rcases Nat.eq_zero_or_pos r with rfl | hr
  · rw [duties_send, if_neg h]
  · exact duties_later m ρ _ r hr
theorem duties_recv_none (h : ¬j.val < c.val) : ∀ r, 0 ≤ r → (rd (F := F) m ρ).duties (recvCell c j) r = ∅ := by
  intro r _
  rcases Nat.eq_zero_or_pos r with rfl | hr
  · rw [duties_recv, if_neg h]
  · exact duties_later m ρ _ r hr

end Sched

/-! ## All the cells, numbered -/

def csem (k : Fin 34) : SemLoc sig :=
  if k.val = 0 then .reg barS else if k.val = 1 then .reg endS else .dma ⟨k.val, k.isLt⟩
def kcell (ck : Dev nD × Fin 34) : GSem nD τ sig := ((ck.1 : Thread nD τ), csem ck.2)

def kSend (j : Fin 16) : Fin 34 := ⟨2 + j.val, by have := j.isLt; omega⟩
def kRecv (j : Fin 16) : Fin 34 := ⟨18 + j.val, by have := j.isLt; omega⟩

theorem kcell_bar (c : Dev nD) : kcell (c, 0) = barCell c := rfl
theorem kcell_end (c : Dev nD) : kcell (c, 1) = endCell c := rfl
theorem kcell_send (c : Dev nD) (j : Fin 16) : kcell (c, kSend j) = sendCell c j := by
  refine Prod.ext rfl ((if_neg ?_).trans ((if_neg ?_).trans rfl))
  · show ¬(kSend j).val = 0; unfold kSend; simp only; omega
  · show ¬(kSend j).val = 1; unfold kSend; simp only; omega
theorem kcell_recv (c : Dev nD) (j : Fin 16) : kcell (c, kRecv j) = recvCell c j := by
  refine Prod.ext rfl ((if_neg ?_).trans ((if_neg ?_).trans rfl))
  · show ¬(kRecv j).val = 0; unfold kRecv; simp only; omega
  · show ¬(kRecv j).val = 1; unfold kRecv; simp only; omega

/-- Every cell's invariant, at the names `K`, and that every cell has reached round 0: what all devices share. -/
def records (K : Dev nD × Fin 34 → ℕ) : sProp 𝕄 :=
  iprop((bigSep Finset.univ fun ck : Dev nD × Fin 34 => cellInv ER (rd m ρ) (K ck) (kcell ck))
    ∗ bigSep Finset.univ fun ck : Dev nD × Fin 34 => reached ER (kcell ck) 0)

instance records_persistent (K : Dev nD × Fin 34 → ℕ) : BI.Persistent (records m ρ K) := by unfold records; infer_instance

theorem inv_at (K : Dev nD × Fin 34 → ℕ) (ck : Dev nD × Fin 34) : records m ρ K ⊢ cellInv ER (rd m ρ) (K ck) (kcell ck) := by
  have h : (bigSep Finset.univ fun ck : Dev nD × Fin 34 => cellInv ER (rd m ρ) (K ck) (kcell ck)) ⊢ cellInv ER (rd m ρ) (K ck) (kcell ck) :=
    bigSep_elim (Finset.mem_univ ck)
  unfold records; iintro ⟨H, -⟩; iapply h; iexact H
theorem reached_at (K : Dev nD × Fin 34 → ℕ) (ck : Dev nD × Fin 34) : records m ρ K ⊢ reached ER (kcell ck) 0 := by
  have h : (bigSep Finset.univ fun ck : Dev nD × Fin 34 => (reached ER (kcell ck) 0 : sProp 𝕄)) ⊢ reached ER (kcell ck) 0 :=
    bigSep_elim (Finset.mem_univ ck)
  unfold records; iintro ⟨-, H⟩; iapply h; iexact H

/-! ## What is owed, in program order, and the levels -/

/-- The sum over the devices from number `n` on. -/
def sumFrom (f : Fin 16 → CellTallies nD τ sig Unit) (n : ℕ) : CellTallies nD τ sig Unit :=
  ∑ j : Fin 16, if n ≤ j.val then f j else 0

theorem sumFrom_step (f : Fin 16 → CellTallies nD τ sig Unit) (j : Fin 16) : sumFrom f j.val = sumFrom f (j.val + 1) + f j := by
  unfold sumFrom
  rw [← Finset.sum_erase_add _ _ (Finset.mem_univ j), if_pos le_rfl, ← Finset.sum_erase_add (a := j) Finset.univ (fun i : Fin 16 => if j.val + 1 ≤ i.val then f i else 0) (Finset.mem_univ j),
    if_neg (by omega), add_zero]
  refine congrArg (· + f j) (Finset.sum_congr rfl fun i hi => ?_)
  have hne : i.val ≠ j.val := fun h => Finset.ne_of_mem_erase hi (Fin.ext h)
  by_cases h : j.val ≤ i.val
  · rw [if_pos h, if_pos (by omega)]
  · rw [if_neg h, if_neg (by omega)]

theorem sumFrom_end (f : Fin 16 → CellTallies nD τ sig Unit) : sumFrom f 16 = 0 :=
  Finset.sum_eq_zero fun j _ => if_neg (by have := j.isLt; omega)

theorem sumFrom_zero (f : Fin 16 → CellTallies nD τ sig Unit) : sumFrom f 0 = ∑ j, f j :=
  Finset.sum_congr rfl fun j _ => if_pos (Nat.zero_le _)

def oweBar (j : Fin 16) : CellTallies nD τ sig Unit := tallyAt (barCell j) () 1
def oweEnd (j : Fin 16) : CellTallies nD τ sig Unit := tallyAt (endCell j) () 1
def oweRecv (c : Dev nD) (j : Fin 16) : CellTallies nD τ sig Unit := if c.val < j.val then tallyAt (recvCell j c) () N else 0

/-- What device `c` owes at launch: a unit to every closing cell, the transfer's credit to every later device, a unit to
    every barrier cell. -/
def O₀ (c : Dev nD) : CellTallies nD τ sig Unit := sumFrom oweEnd 0 + sumFrom (oweRecv c) 0 + sumFrom oweBar 0

def L (g : GSem nD τ sig) : Finset Unit := if g.1.2 = .tc then {()} else ∅
/-- staging and send cells at 0, the barrier at 1, receive cells at 2, the closing cells at 3. -/
def lvOf : SemLoc sig → ℕ
  | .reg s => if s = barS then 1 else 3
  | .dma q => if q.val < 18 then 0 else 2
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := show (if barS = barS then 1 else 3) = 1 from if_pos rfl
theorem lv_end (c : Dev nD) : lv (endCell c) () = 3 := show (if endS = barS then 1 else 3) = 3 from if_neg barS_ne_endS.symm
theorem lv_recv (c : Dev nD) (j : Fin 16) : lv (recvCell c j) () = 2 := by
  exact if_neg (recvSem_ge' j)

theorem tally_sum_apply (s : Finset (Fin 16)) (f : Fin 16 → CellTallies nD τ sig Unit) (g : GSem nD τ sig) (u : Unit) :
    (∑ j ∈ s, f j) g u = ∑ j ∈ s, f j g u := by
  rw [Finset.sum_apply, Finsupp.finset_sum_apply]

theorem pos_of_sumFrom {f : Fin 16 → CellTallies nD τ sig Unit} {n : ℕ} {g : GSem nD τ sig} {u : Unit}
    (h : 0 < sumFrom f n g u) : ∃ j, 0 < f j g u := by
  unfold sumFrom at h
  rw [tally_sum_apply] at h
  obtain ⟨j, -, hj⟩ := Finset.exists_ne_zero_of_sum_ne_zero (Nat.pos_iff_ne_zero.mp h)
  by_cases hn : n ≤ j.val
  · rw [if_pos hn] at hj; exact ⟨j, Nat.pos_of_ne_zero hj⟩
  · rw [if_neg hn] at hj; exact absurd rfl hj

theorem pos_tallyAt {g g' : GSem nD τ sig} {u : Unit} {n : ℕ} (h : 0 < tallyAt g () n g' u) : g' = g := by
  rw [tallyAt_apply] at h
  by_contra hn
  rw [if_neg fun h' => hn h'.1] at h
  exact Nat.lt_irrefl 0 h

theorem pos_end {n : ℕ} {g : GSem nD τ sig} {u : Unit} (h : 0 < sumFrom oweEnd n g u) : ∃ j : Dev nD, g = endCell j := by
  obtain ⟨j, hj⟩ := pos_of_sumFrom h; exact ⟨j, pos_tallyAt hj⟩
theorem pos_bar {n : ℕ} {g : GSem nD τ sig} {u : Unit} (h : 0 < sumFrom oweBar n g u) : ∃ j : Dev nD, g = barCell j := by
  obtain ⟨j, hj⟩ := pos_of_sumFrom h; exact ⟨j, pos_tallyAt hj⟩
theorem pos_recv {c : Dev nD} {n : ℕ} {g : GSem nD τ sig} {u : Unit} (h : 0 < sumFrom (oweRecv c) n g u) : ∃ j : Dev nD, g = recvCell j c := by
  obtain ⟨j, hj⟩ := pos_of_sumFrom h
  unfold oweRecv at hj
  split at hj
  · exact ⟨j, pos_tallyAt hj⟩
  · exact absurd hj (Nat.lt_irrefl 0)

/-- A wait at a level below everything owed is allowed. -/
theorem mayWait_below (c : Dev nD) (sm : SemLoc sig) (O : CellTallies nD τ sig Unit)
    (h : ∀ g u, 0 < O g u → g.1.2 = .tc ∧ lvOf sm < lv g u) : (levAts L lv : sProp 𝕄) ⊢ MayWait (c : Thread nD τ) sm () O :=
  MayOwe.of_cut (L := L) (lev := lv) (lvOf sm) (fun p hp => by rw [Finset.mem_singleton.mp hp, L_tc]; exact Finset.mem_singleton_self _)
    (fun g u hg => by rw [show L g = {()} from if_pos (h g u hg).1]; exact Finset.mem_singleton_self _)
    (fun p hp => by rw [Finset.mem_singleton.mp hp]; exact le_rfl)
    (fun g u hg => (h g u hg).2)

theorem mayWait_bar (c : Dev nD) : (levAts L lv : sProp 𝕄) ⊢ MayWait (c : Thread nD τ) (.reg barS) () (sumFrom oweEnd 0 + sumFrom (oweRecv c) 0) :=
  mayWait_below c _ _ fun g u hg => by
    rw [Pi.add_apply, Finsupp.add_apply] at hg
    rcases (Nat.add_pos_iff_pos_or_pos.mp hg) with h | h
    · obtain ⟨j, rfl⟩ := pos_end h; exact ⟨rfl, by rw [lv_end]; decide⟩
    · obtain ⟨j, rfl⟩ := pos_recv h; exact ⟨rfl, by rw [lv_recv]; decide⟩

theorem mayWait_recv (c : Dev nD) (j : Fin 16) : (levAts L lv : sProp 𝕄) ⊢ MayWait (c : Thread nD τ) (.dma (recvSem j)) () (sumFrom oweEnd 0) :=
  mayWait_below c _ _ fun g u hg => by
    obtain ⟨i, rfl⟩ := pos_end hg
    exact ⟨rfl, by rw [lv_end, show lvOf (.dma (recvSem j)) = 2 from lv_recv c j]; decide⟩

theorem mayWait_stage (c : Dev nD) (q : DmaSem sig) (hq : q.val < 18) (O : CellTallies nD τ sig Unit) (hO : O = O₀ c ∨ O = 0) :
    (levAts L lv : sProp 𝕄) ⊢ MayWait (c : Thread nD τ) (.dma q) () O := by
  have hl : lvOf (.dma q) = 0 := if_pos hq
  rcases hO with rfl | rfl
  · refine mayWait_below c _ _ fun g u hg => ?_
    unfold O₀ at hg
    rw [Pi.add_apply, Finsupp.add_apply, Pi.add_apply, Finsupp.add_apply] at hg
    rw [hl]
    rcases (Nat.add_pos_iff_pos_or_pos.mp hg) with h | h
    · rcases (Nat.add_pos_iff_pos_or_pos.mp h) with h | h
      · obtain ⟨j, rfl⟩ := pos_end h; exact ⟨rfl, by rw [lv_end]; decide⟩
      · obtain ⟨j, rfl⟩ := pos_recv h; exact ⟨rfl, by rw [lv_recv]; decide⟩
    · obtain ⟨j, rfl⟩ := pos_bar h; exact ⟨rfl, by rw [lv_bar]; decide⟩
  · rw [MayWait_zero]; iintro -; iempintro

/-! ## Progress through sixteen steps -/

/-- Sixteen resources, those numbered below `n` as left by their step, the others as it finds them. -/
def prog (n : ℕ) (A B : Fin 16 → sProp 𝕄) : sProp 𝕄 := bigSep Finset.univ fun j : Fin 16 => if j.val < n then A j else B j

omit [FloatOps F] in
theorem prog_zero (A B : Fin 16 → sProp 𝕄) : prog 0 A B = bigSep Finset.univ B :=
  bigSep_congr fun j _ => if_neg (Nat.not_lt_zero _)
omit [FloatOps F] in
theorem prog_end (A B : Fin 16 → sProp 𝕄) : prog 16 A B = bigSep Finset.univ A :=
  bigSep_congr fun j _ => if_pos j.isLt
omit [FloatOps F] in
theorem prog_step (A B : Fin 16 → sProp 𝕄) (j : Fin 16) : prog j.val A B ⊢ iprop(B j ∗ (A j -∗ prog (j.val + 1) A B)) := by
  unfold prog
  rw [bigSep_univ_at _ j, if_neg (Nat.lt_irrefl _)]
  refine sep_mono_right (BI.wand_intro ?_)
  rw [bigSep_univ_at (fun i : Fin 16 => if i.val < j.val + 1 then A i else B i) j, if_pos (Nat.lt_succ_self _)]
  refine (sep_comm (PROP := sProp 𝕄)).1.trans (sep_mono_right (Entails.of_eq (bigSep_congr fun i hi => ?_)))
  have hne : i.val ≠ j.val := fun h => (Finset.mem_erase.mp hi).1 (Fin.ext h)
  by_cases h : i.val < j.val
  · rw [if_pos h, if_pos (by omega)]
  · rw [if_neg h, if_neg (by omega)]

end Cert.KernelIdeal.Scan

end
-- ==== Proof.IdealSteps.lean ====
/- The steps of the scan kernel's body, each as a rule for one of its sixteen repetitions: from what the device has in
   hand before step `j` to what it has before step `j + 1`. -/
module

public import proofs.«01_k».proof.Proof.IdealProto

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 34 → ℕ) (c : Dev nD)

/-- A part of the body run on device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What the device owes, whatever its recorded waits. -/
def owing (O : CellTallies nD τ sig Unit) : sProp 𝕄 := iprop(∃ W, owes (c : Thread nD τ) O W)

variable {α : Type} {Q : α → sProp (MT nD τ sig Unit (Elt F) ℕ UU ℕ)} {R : sProp (MT nD τ sig Unit (Elt F) ℕ UU ℕ)}
  {k : PUnit → Prog (TpuEff nD τ sig (Elt F) Λ₀ .tc) α}

/-! ## Raising every device's barrier -/

def barLeft (j : Fin 16) : sProp 𝕄 := if j.val < c.val then iprop(emp) else slot c j (zero j)
def barTodo (j : Fin 16) : sProp 𝕄 := iprop(dutyTok ER (barCell j) 0 c ∗ slot c j (zero j))

def BarSt (n : ℕ) : sProp 𝕄 :=
  iprop(records m ρ K ∗ owing (F := F) c (sumFrom oweEnd 0 + sumFrom (oweRecv c) 0 + sumFrom oweBar n) ∗ prog n (barLeft c) (barTodo c))

theorem bar_give (j : Fin 16) : slot c j (zero j) ⊢ iprop((rd (F := F) m ρ).payload (barCell j) 0 c ∗ barLeft c j) := by
  rw [payload_bar]; unfold barPay barLeft
  split
  · iintro H; isplitl [H]
    · iexists _; iexact H
    · iempintro
  · iintro H; isplitr
    · iempintro
    · iexact H

theorem bar_step (j : Fin 16) {dv : ℕ} (hdv : dv = j.val) {hlt : dv < nD}
    (h : iprop(BarSt m ρ K c (j.val + 1) ∗ R) ⊢ run c (k ⟨⟩) Q) :
    iprop(BarSt m ρ K c j.val ∗ R) ⊢ run c (semSignalWord (⟨dv, hlt⟩ : Dev nD) barS 1#32 >>= k) Q := by
  subst hdv
  show _ ⊢ run c (.op (.semSignal ((j : Dev nD) : Thread nD τ) barS (1#32 : BitVec 32).toInt) fun x => Prog.ret x >>= k) Q
  unfold BarSt owing
  iintro ⟨⟨#HI, ⟨%W, HO⟩, HP⟩, HR⟩
  ihave HP := (prog_step (barLeft c) (barTodo c) j) $$ HP
  icases HP with ⟨HB, HP⟩
  unfold barTodo
  icases HB with ⟨Ht, Hs⟩
  ihave Hs := (bar_give m ρ c j) $$ Hs
  icases Hs with ⟨Hpay, Hl⟩
  iapply (Rounds.wp_signal 𝒱₀ ER (rd m ρ) (c : Thread nD τ) none (dst := ((j : Dev nD) : Thread nD τ)) (κ := K (j, 0))
      (d := c) (by rw [duties_bar]; exact Finset.mem_univ _) ((amount_bar m ρ j c).trans (by decide)) ()
      (O₀ := sumFrom oweEnd 0 + sumFrom (oweRecv c) 0 + sumFrom oweBar j.val) (sumFrom oweEnd 0 + sumFrom (oweRecv c) 0 + sumFrom oweBar (j.val + 1))
      (by rw [sumFrom_step oweBar j, ← add_assoc]; rfl))
    $$ [HO Ht Hpay]
  · isplitr; · iapply (inv_at m ρ K (j, 0)); iexact HI
    isplitl [HO]; · iexact HO
    isplitl [Ht]; · iexact Ht
    isplitl [Hpay]; · iexact Hpay
    iapply (reached_at m ρ K (j, 0)); iexact HI
  iintro HO
  iapply h
  unfold BarSt owing
  isplitr [HR]
  · isplitr; · iexact HI
    isplitl [HO]; · iexists W; iexact HO
    iapply HP; iexact Hl
  · iexact HR

/-! ## The wait for all sixteen raises: what the later devices handed over -/

def given (j : Fin 16) : sProp 𝕄 := if c.val < j.val then iprop(∃ V, slot (F := F) j c V) else iprop(emp)

theorem rest_bar : bigSep ((rd (F := F) m ρ).duties (barCell c) 0 \ ∅) (fun d => (rd (F := F) m ρ).payload (barCell c) 0 d)
    = bigSep Finset.univ (given (F := F) c) := by
  rw [Finset.sdiff_empty, duties_bar, bigSep_congr fun d _ => payload_bar m ρ c d]
  rfl

theorem bar_wait (h : iprop(owing (F := F) c (sumFrom oweEnd 0 + sumFrom (oweRecv c) 0) ∗ atPos ER (barCell c) 1 ∅ 0
      ∗ bigSep Finset.univ (given (F := F) c) ∗ R) ⊢ run c (k ⟨⟩) Q) :
    iprop((records m ρ K ∗ levAts L lv ∗ cred (tallyAt (barCell c) () 16) ∗ atPos ER (barCell c) 0 ∅ 0
      ∗ owing (F := F) c (sumFrom oweEnd 0 + sumFrom (oweRecv c) 0)) ∗ R) ⊢ run c (semWaitWord barS 16#32 >>= k) Q := by
  show _ ⊢ run c (.op (.semWait barS (16#32 : BitVec 32).toInt) fun x => Prog.ret x >>= k) Q
  unfold owing at *
  iintro ⟨⟨#HI, #Hlev, Hc, Hat, ⟨%W, HO⟩⟩, HR⟩
  iapply (Rounds.wp_wait_rest_token 𝒱₀ ER (rd m ρ) (c : Thread nD τ) none (κ := K (c, 0))
      (wpE_semWait_eq 𝒱₀ (c : Thread nD τ) none Set.univ) (Set.mem_univ _) () (O := sumFrom oweEnd 0 + sumFrom (oweRecv c) 0) (W := W) (R := 0) (m := 0) (T := ∅)
      (by rw [expect_bar]; decide)) $$ [Hc HO Hat]
  · isplitr; · iapply (inv_at m ρ K (c, 0)); iexact HI
    isplitl [Hc]; · iexact Hc
    isplitl [HO]; · iexact HO
    isplitr; · iapply (mayWait_bar c); iexact Hlev
    iexact Hat
  iintro ⟨HO, Hat, -, Hpay⟩
  iapply h
  isplitl [HO]; · iexists _; iexact HO
  isplitl [Hat]; · iexact Hat
  isplitl [Hpay]
  · iapply (Entails.of_eq (rest_bar m ρ c)); iexact Hpay
  · iexact HR

/-! ## Sending the totals to every later device -/

def sendTodo (j : Fin 16) : sProp 𝕄 :=
  iprop((dutyTok ER (sendCell c j) 0 c ∗ dutyTok ER (recvCell j c) 0 j) ∗ given (F := F) c j ∗ piece m ρ c j)
def sendLeft (j : Fin 16) : sProp 𝕄 := if c.val < j.val then cred (tallyAt (sendCell c j) () N) else piece m ρ c j

def SendSt (n : ℕ) : sProp 𝕄 :=
  iprop(records m ρ K ∗ owing (F := F) c (sumFrom oweEnd 0 + sumFrom (oweRecv c) n) ∗ prog n (sendLeft m ρ c) (sendTodo m ρ c))

theorem sendSem_eq (j : Fin 16) (h : ∀ a, (![j.val] : Fin 1 → Nat) a + S1.size a ≤ S16.size a) :
    ((sendS.slice (Rect.unit (s := S16) ![j.val] S1.size h)).squeeze S_ squeezes_S1_S_).sem = sendSem j := by
  revert j; decide
theorem recvSem_eq (j : Fin 16) (h : ∀ a, (![j.val] : Fin 1 → Nat) a + S1.size a ≤ S16.size a) :
    ((recvS.slice (Rect.unit (s := S16) ![j.val] S1.size h)).squeeze S_ squeezes_S1_S_).sem = recvSem j := by
  revert j; decide

theorem slot_credit (j : Fin 16) : (slotM j).view.dmaCredit = N := rfl
theorem slot_amount (j : Fin 16) (q : DmaSem sig) : (slotM j).view.amount (.dma q) = N := slot_credit j

theorem send_pay (j : Fin 16) :
    ((sendM : Memref sig .tc .vmem S8x1024 .f32).view.loc (c : Thread nD τ) ↦[(sendM : Memref sig .tc .vmem S8x1024 .f32).view.set]{ShareLeaves.leaf 4 fullShare j} tot m ρ c)
      ⊢ (rd (F := F) m ρ).payload (sendCell c j) 0 c := by
  rw [payload_send]; exact BI.Entails.refl _

/-- What lands in slot `i` of device `d` makes the payload of its receive cell. -/
theorem recv_pay (d i : Dev nD) (fd : Buf (Elt F) ((slotM i).view.loc (d : Thread nD τ))) :
    ((slotM i).view.loc (d : Thread nD τ) ↦[(slotM i).view.set]{fullShare}
        (slotM i).view.write (Elt F) fd ((sendM : Memref sig .tc .vmem S8x1024 .f32).view.read (Elt F) (tot m ρ i)) Finset.univ)
      ⊢ (rd (F := F) m ρ).payload (recvCell d i) 0 d := by
  rw [payload_recv]
  refine (owns_intro (d : Thread nD τ) (slotM i) fullShare _).trans (Entails.of_eq ?_)
  rw [View.read_write_univ]
  rfl

theorem inv_send (d : Dev nD) (j : Fin 16) : records m ρ K ⊢ cellInv ER (rd m ρ) (K (d, kSend j)) (sendCell d j) :=
  kcell_send d j ▸ inv_at m ρ K (d, kSend j)
theorem inv_recv (d : Dev nD) (j : Fin 16) : records m ρ K ⊢ cellInv ER (rd m ρ) (K (d, kRecv j)) (recvCell d j) :=
  kcell_recv d j ▸ inv_at m ρ K (d, kRecv j)
theorem reached_send (d : Dev nD) (j : Fin 16) : records m ρ K ⊢ reached ER (sendCell d j) 0 :=
  kcell_send d j ▸ reached_at m ρ K (d, kSend j)
theorem reached_recv (d : Dev nD) (j : Fin 16) : records m ρ K ⊢ reached ER (recvCell d j) 0 :=
  kcell_recv d j ▸ reached_at m ρ K (d, kRecv j)

/-- The transfer itself, the slot's and the two counters' names settled. -/
theorem send_op (j : Fin 16) (hj : c.val < j.val) {sS sR : DmaSem sig} (hsS : sS = sendSem j) (hsR : sR = recvSem c)
    {hsc : (slotM c : Memref sig (Dev.tc (j : Dev nD) : Thread nD τ).2.kind .vmem S8x1024 .f32).view.ref.isScScratch = false}
    {hsrc : (sendM : Memref sig .tc .vmem S8x1024 .f32).view.WordExact} {hdst : (slotM c).view.WordExact}
    {hsem : DmaTarget.Typed .vmem (.dma sR) (.remote (Dev.tc (j : Dev nD) : Thread nD τ) (slotM c) (.dma sS) hsc)}
    (h : iprop(SendSt m ρ K c (j.val + 1) ∗ R) ⊢ run c (k ⟨⟩) Q) :
    iprop(SendSt m ρ K c j.val ∗ R) ⊢ run c
      (.op (.enqueueDma sendM (.remote (Dev.tc (j : Dev nD) : Thread nD τ) (slotM c) (.dma sS) hsc) (.dma sR) hsrc hdst hsem) k) Q := by
  subst hsS hsR
  have hO : sumFrom oweEnd 0 + sumFrom (oweRecv c) j.val
      = sumFrom oweEnd 0 + sumFrom (oweRecv c) (j.val + 1) + tallyAt (recvCell j c) () N := by
    rw [sumFrom_step (oweRecv c) j, ← add_assoc, show oweRecv c j = tallyAt (recvCell j c) () N from if_pos hj]
  unfold SendSt owing
  iintro ⟨⟨#HI, ⟨%W, HO⟩, HP⟩, HR⟩
  ihave HP := (prog_step (sendLeft m ρ c) (sendTodo m ρ c) j) $$ HP
  icases HP with ⟨HB, HP⟩
  unfold sendTodo given sendLeft
  rw [if_pos hj, if_pos hj]
  icases HB with ⟨⟨HtS, HtR⟩, ⟨%V, Hd⟩, Hp⟩
  unfold slot owns piece
  icases Hd with ⟨%fd, -, Hd⟩
  iapply (Rounds.wp_send_pointsTo 𝒱₀ ER (rd m ρ) (c : Thread nD τ) none (κ₁ := K (c, kSend j)) (κ₂ := K (j, kRecv c))
      (r₁ := 0) (r₂ := 0) (d₁ := c) (d₂ := j) (fd := fd)
      (by rw [duties_send, if_pos hj]; exact Finset.mem_singleton_self _) (by rw [duties_recv, if_pos hj]; exact Finset.mem_singleton_self _)
      () () N (slot_amount c _) (amount_send m ρ c c j) (amount_recv m ρ j j c) (O₀ := sumFrom oweEnd 0 + sumFrom (oweRecv c) j.val) (sumFrom oweEnd 0 + sumFrom (oweRecv c) (j.val + 1))
      hO (W := W)
      (send_pay m ρ c j)
      (recv_pay m ρ j c fd))
    $$ [HO HtS HtR Hd Hp]
  · isplitr; · iapply (inv_send m ρ K c j); iexact HI
    isplitr; · iapply (inv_recv m ρ K j c); iexact HI
    isplitl [Hp]; · iexact Hp
    isplitl [Hd]; · iexact Hd
    isplitl [HO]; · iexact HO
    isplitl [HtS]; · iexact HtS
    isplitr; · iapply (reached_send m ρ K c j); iexact HI
    isplitl [HtR]; · iexact HtR
    iapply (reached_recv m ρ K j c); iexact HI
  iintro ⟨Hc, HO⟩
  iapply h
  unfold SendSt owing
  isplitr [HR]
  · isplitr; · iexact HI
    isplitl [HO]; · iexists W; iexact HO
    iapply HP; iexact Hc
  · iexact HR

/-- No transfer to a device that does not come later. -/
theorem send_skip (j : Fin 16) (hj : ¬c.val < j.val) : SendSt m ρ K c j.val ⊢ SendSt m ρ K c (j.val + 1) := by
  unfold SendSt owing
  iintro ⟨#HI, ⟨%W, HO⟩, HP⟩
  isplitr; · iexact HI
  isplitl [HO]
  · iexists W
    rw [sumFrom_step (oweRecv c) j]
    unfold oweRecv
    rw [if_neg hj, add_zero]
    iexact HO
  ihave HP := (prog_step (sendLeft m ρ c) (sendTodo m ρ c) j) $$ HP
  icases HP with ⟨HB, HP⟩
  iapply HP
  unfold sendTodo sendLeft
  rw [if_neg hj]
  icases HB with ⟨-, -, Hp⟩
  iexact Hp

theorem send_step (j : Fin 16) {b : BitVec 1} (hb : b = 1#1 ↔ c.val < j.val)
    {off1 : Fin 1 → Nat} (hoff1 : off1 = ![c.val]) {off2 : Fin 3 → Nat} (hoff2 : off2 = ![c.val, 0, 0])
    {dv : ℕ} (hdv : dv = j.val) {hlt : b = 1#1 → dv < nD}
    {inb0 : ∀ a, (![j.val] : Fin 1 → Nat) a + S1.size a ≤ S16.size a}
    {inb1 : b = 1#1 → ∀ a, off1 a + S1.size a ≤ S16.size a}
    {inb2 : b = 1#1 → ∀ a, off2 a + S1x8x1024.size a ≤ S16x8x1024.size a}
    (hw : (sendM : Memref sig .tc .vmem S8x1024 .f32).IsWhole)
    (h : iprop(SendSt m ρ K c (j.val + 1) ∗ R) ⊢ run c (k ⟨⟩) Q) :
    iprop(SendSt m ρ K c j.val ∗ R) ⊢ run c
      (if h : b = 1#1 then
        Prog.lift (.enqueueDma sendM (.remote (Dev.tc (⟨dv, hlt h⟩ : Dev nD) : Thread nD τ)
          ((commM.slice (Rect.unit (s := S16x8x1024) off2 S1x8x1024.size (inb2 h)) (fun _ => rfl)).squeeze S8x1024 squeezes_S1x8x1024_S8x1024)
          (.dma ((sendS.slice (Rect.unit (s := S16) ![j.val] S1.size inb0)).squeeze S_ squeezes_S1_S_).sem))
          (.dma ((recvS.slice (Rect.unit (s := S16) off1 S1.size (inb1 h))).squeeze S_ squeezes_S1_S_).sem) hw.wordExact ((View.wordExact_bits rfl).reshape _ _) ⟨⟨rfl, Or.inl rfl⟩, trivial⟩) >>= k
      else k ⟨⟩) Q := by
  subst hoff1 hoff2 hdv
  by_cases hj : c.val < j.val
  · rw [dif_pos (hb.mpr hj)]
    exact send_op m ρ K c j hj (sendSem_eq j _) (recvSem_eq c _) h
  · rw [dif_neg fun hh => hj (hb.mp hh)]
    exact (sep_mono_left (send_skip m ρ K c j hj)).trans h

/-! ## Receiving from every earlier device -/

def recvTodo (j : Fin 16) : sProp 𝕄 :=
  iprop(atPos ER (recvCell c j) 0 ∅ 0 ∗ if j.val < c.val then cred (tallyAt (recvCell c j) () N) else slot c j (zero j))
def recvLeft (j : Fin 16) : sProp 𝕄 :=
  iprop(atPos ER (recvCell c j) (if j.val < c.val then 1 else 0) ∅ 0 ∗ slot c j (slotVal m ρ c j))

def RecvSt (n : ℕ) : sProp 𝕄 :=
  iprop(records m ρ K ∗ levAts L lv ∗ owing (F := F) c (sumFrom oweEnd 0) ∗ prog n (recvLeft m ρ c) (recvTodo c))

theorem rest_recv (j : Fin 16) (hj : j.val < c.val) :
    bigSep ((rd (F := F) m ρ).duties (recvCell c j) 0 \ ∅) (fun d => (rd (F := F) m ρ).payload (recvCell c j) 0 d) = slot c j (tot m ρ j) := by
  rw [Finset.sdiff_empty, duties_recv, if_pos hj, bigSep_singleton, payload_recv]

theorem recv_op (j : Fin 16) (hj : j.val < c.val) {sR : DmaSem sig} (hsR : sR = recvSem j)
    {hsrc : (sendM : Memref sig .tc .vmem S8x1024 .f32).view.WordExact} {hdst : (slotM j).view.WordExact}
    (h : iprop(RecvSt m ρ K c (j.val + 1) ∗ R) ⊢ run c (k ⟨⟩) Q) :
    iprop(RecvSt m ρ K c j.val ∗ R) ⊢ run c (.op (.waitDma2 sR sendM (slotM j) hsrc hdst) k) Q := by
  subst hsR
  unfold RecvSt owing
  iintro ⟨⟨#HI, #Hlev, ⟨%W, HO⟩, HP⟩, HR⟩
  ihave HP := (prog_step (recvLeft m ρ c) (recvTodo c) j) $$ HP
  icases HP with ⟨HB, HP⟩
  unfold recvTodo recvLeft
  rw [if_pos hj, if_pos hj]
  icases HB with ⟨Hat, Hc⟩
  iapply (Rounds.wp_wait_rest_token 𝒱₀ ER (rd m ρ) (c : Thread nD τ) none (κ := K (c, kRecv j))
      (wpE_waitDma2_eq 𝒱₀ (c : Thread nD τ) none Set.univ) (Set.mem_univ _) () (O := sumFrom oweEnd 0) (W := W) (R := 0) (m := 0) (T := ∅)
      (by rw [Nat.zero_add, expect_recv m ρ c j hj, slot_credit])) $$ [Hc HO Hat]
  · isplitr; · iapply (inv_recv m ρ K c j); iexact HI
    isplitl [Hc]; · iexact Hc
    isplitl [HO]; · iexact HO
    isplitr; · iapply (mayWait_recv c j); iexact Hlev
    iexact Hat
  iintro ⟨HO, Hat, -, Hpay⟩
  ihave Hpay := (Entails.of_eq (rest_recv m ρ c j hj)) $$ Hpay
  iapply h
  unfold RecvSt owing
  isplitr [HR]
  · isplitr; · iexact HI
    isplitr; · iexact Hlev
    isplitl [HO]; · iexists _; iexact HO
    iapply HP; unfold slotVal; rw [if_pos hj]
    isplitl [Hat]; · iexact Hat
    iexact Hpay
  · iexact HR

theorem recv_skip (j : Fin 16) (hj : ¬j.val < c.val) : RecvSt m ρ K c j.val ⊢ RecvSt m ρ K c (j.val + 1) := by
  unfold RecvSt
  iintro ⟨HI, Hlev, HO, HP⟩
  isplitl [HI]; · iexact HI
  isplitl [Hlev]; · iexact Hlev
  isplitl [HO]; · iexact HO
  ihave HP := (prog_step (recvLeft m ρ c) (recvTodo c) j) $$ HP
  icases HP with ⟨HB, HP⟩
  iapply HP
  unfold recvTodo recvLeft slotVal
  rw [if_neg hj, if_neg hj, if_neg hj]
  iexact HB

theorem recv_step (j : Fin 16) {b : BitVec 1} (hb : b = 1#1 ↔ j.val < c.val)
    {inb0 : ∀ a, (![j.val] : Fin 1 → Nat) a + S1.size a ≤ S16.size a}
    {inb2 : ∀ a, (![j.val, 0, 0] : Fin 3 → Nat) a + S1x8x1024.size a ≤ S16x8x1024.size a}
    (hw : (sendM : Memref sig .tc .vmem S8x1024 .f32).IsWhole)
    (h : iprop(RecvSt m ρ K c (j.val + 1) ∗ R) ⊢ run c (k ⟨⟩) Q) :
    iprop(RecvSt m ρ K c j.val ∗ R) ⊢ run c
      (if h : b = 1#1 then
        Prog.lift (.waitDma2 ((recvS.slice (Rect.unit (s := S16) ![j.val] S1.size inb0)).squeeze S_ squeezes_S1_S_).sem sendM
          ((commM.slice (Rect.unit (s := S16x8x1024) ![j.val, 0, 0] S1x8x1024.size inb2) (fun _ => rfl)).squeeze S8x1024 squeezes_S1x8x1024_S8x1024)
          hw.wordExact ((View.wordExact_bits rfl).reshape _ _)) >>= k
      else k ⟨⟩) Q := by
  by_cases hj : j.val < c.val
  · rw [dif_pos (hb.mpr hj)]
    exact recv_op m ρ K c j hj (recvSem_eq j _) h
  · rw [dif_neg fun hh => hj (hb.mp hh)]
    exact (sep_mono_left (recv_skip m ρ K c j hj)).trans h

/-! ## Loading a slot -/

def LoadSt : sProp 𝕄 := bigSep Finset.univ fun j : Fin 16 => slot c j (slotVal m ρ c j)

/-- What a load of slot `j` reads. -/
def loaded (j : Fin 16) : S1x8x1024.Idx → Elt F .f32 := shapeCast S1x8x1024 (slotVal m ρ c j) (by decide)

theorem shapeCasts_slot : S1x8x1024.ShapeCasts S8x1024 := by decide

theorem slot_covers (j : Fin 16) :
    (commM : Memref sig .tc .vmem S16x8x1024 .f32).view.setOn (slotR j).toLoadRect.set ⊆ (slotM j).view.set := by
  refine subset_of_eq (Eq.trans ?_ (View.set_reshape _ _).symm)
  exact (View.set_slice _ (slotR j)).symm

theorem load_eq (j : Fin 16) (f : Buf (Elt F) ((slotM j).view.loc (c : Thread nD τ))) (hf : (slotM j).view.read (Elt F) f = slotVal m ρ c j) :
    (commM : Memref sig .tc .vmem S16x8x1024 .f32).view.readAt (Elt F) (slotR j).toLoadRect f = loaded m ρ c j := by
  rw [show (slotM j).view.read (Elt F) f = shapeCast S8x1024 ((commM : Memref sig .tc .vmem S16x8x1024 .f32).view.readAt (Elt F) (slotR j).toLoadRect f) shapeCasts_slot from rfl] at hf
  unfold loaded
  rw [← hf]
  exact (shapeCast_shapeCast _ _ _).symm

theorem load_step (j : Fin 16) {inb : ∀ a, (![j.val, 0, 0] : Fin 3 → Nat) a + S1x8x1024.size a ≤ S16x8x1024.size a}
    {hl : (commM : Memref sig .tc .vmem S16x8x1024 .f32).view.LoadsAt (Rect.unit (s := S16x8x1024) ![j.val, 0, 0] S1x8x1024.size inb).toLoadRect}
    {k : (S1x8x1024.Idx → Elt F .f32) → Prog (TpuEff nD τ sig (Elt F) Λ₀ .tc) α}
    (h : iprop(LoadSt m ρ c ∗ R) ⊢ run c (k (loaded m ρ c j)) Q) :
    iprop(LoadSt m ρ c ∗ R) ⊢ run c
      (Prog.lift (.load commM (Rect.unit (s := S16x8x1024) ![j.val, 0, 0] S1x8x1024.size inb).toLoadRect hl) >>= k) Q := by
  simp only [Prog.lift, Prog.bind_op, Prog.bind_ret]
  unfold LoadSt at *
  rw [bigSep_univ_at _ j] at *
  unfold slot owns
  iintro ⟨⟨⟨%f, %hf, Hf⟩, Hrest⟩, HR⟩
  iapply (wp_load 𝒱₀ (c : Thread nD τ) none Set.univ (m := commM) (slot_covers j)) $$ Hf
  iintro Hf
  rw [load_eq m ρ c j f hf]
  iapply h
  unfold slot owns
  isplitr [HR]
  · isplitl [Hf]
    · iexists f; isplitr
      · ipureintro; exact hf
      · iexact Hf
    · iexact Hrest
  · iexact HR

/-! ## Raising every device's closing counter -/

def EndSt (n : ℕ) : sProp 𝕄 :=
  iprop(records m ρ K ∗ owing (F := F) c (sumFrom oweEnd n) ∗ prog n (fun _ => iprop(emp)) (fun j => dutyTok ER (endCell j) 0 c))

theorem end_step (j : Fin 16) {dv : ℕ} (hdv : dv = j.val) {hlt : dv < nD}
    (h : iprop(EndSt m ρ K c (j.val + 1) ∗ R) ⊢ run c (k ⟨⟩) Q) :
    iprop(EndSt m ρ K c j.val ∗ R) ⊢ run c (semSignalWord (⟨dv, hlt⟩ : Dev nD) endS 1#32 >>= k) Q := by
  subst hdv
  show _ ⊢ run c (.op (.semSignal ((j : Dev nD) : Thread nD τ) endS (1#32 : BitVec 32).toInt) fun x => Prog.ret x >>= k) Q
  unfold EndSt owing
  iintro ⟨⟨#HI, ⟨%W, HO⟩, HP⟩, HR⟩
  ihave HP := (prog_step (fun _ => iprop(emp)) (fun j => dutyTok ER (endCell j) 0 c) j) $$ HP
  icases HP with ⟨Ht, HP⟩
  iapply (Rounds.wp_signal 𝒱₀ ER (rd m ρ) (c : Thread nD τ) none (dst := ((j : Dev nD) : Thread nD τ)) (κ := K (j, 1))
      (d := c) (by rw [duties_end]; exact Finset.mem_univ _) ((amount_end m ρ j c).trans (by decide)) ()
      (O₀ := sumFrom oweEnd j.val) (sumFrom oweEnd (j.val + 1)) (sumFrom_step oweEnd j))
    $$ [HO Ht]
  · isplitr; · iapply (inv_at m ρ K (j, 1)); iexact HI
    isplitl [HO]; · iexact HO
    isplitl [Ht]; · iexact Ht
    isplitr; · rw [payload_end]; iempintro
    iapply (reached_at m ρ K (j, 1)); iexact HI
  iintro HO
  iapply h
  unfold EndSt owing
  isplitr [HR]
  · isplitr; · iexact HI
    isplitl [HO]; · iexists W; iexact HO
    iapply HP; iempintro
  · iexact HR

/-! ## Waiting for one's own transfers to have read the send buffer -/

def doneTodo (j : Fin 16) : sProp 𝕄 := iprop(atPos ER (sendCell c j) 0 ∅ 0 ∗ sendLeft m ρ c j)
def doneLeft (j : Fin 16) : sProp 𝕄 := iprop(atPos ER (sendCell c j) (if c.val < j.val then 1 else 0) ∅ 0 ∗ piece m ρ c j)

def DoneSt (n : ℕ) : sProp 𝕄 :=
  iprop(records m ρ K ∗ owing (F := F) c 0 ∗ prog n (doneLeft m ρ c) (doneTodo m ρ c))

theorem rest_send (j : Fin 16) (hj : c.val < j.val) :
    bigSep ((rd (F := F) m ρ).duties (sendCell c j) 0 \ ∅) (fun d => (rd (F := F) m ρ).payload (sendCell c j) 0 d) = piece m ρ c j := by
  rw [Finset.sdiff_empty, duties_send, if_pos hj, bigSep_singleton, payload_send]

theorem done_op (j : Fin 16) (hj : c.val < j.val) {sS : DmaSem sig} (hsS : sS = sendSem j) {i : Fin 16}
    {hsrc : (slotM i).view.WordExact} {hdst : (sendM : Memref sig .tc .vmem S8x1024 .f32).view.WordExact}
    (h : iprop(DoneSt m ρ K c (j.val + 1) ∗ R) ⊢ run c (k ⟨⟩) Q) :
    iprop(DoneSt m ρ K c j.val ∗ R) ⊢ run c (.op (.waitDma2 sS (slotM i) sendM hsrc hdst) k) Q := by
  subst hsS
  unfold DoneSt owing
  iintro ⟨⟨#HI, ⟨%W, HO⟩, HP⟩, HR⟩
  ihave HP := (prog_step (doneLeft m ρ c) (doneTodo m ρ c) j) $$ HP
  icases HP with ⟨HB, HP⟩
  unfold doneTodo sendLeft
  rw [if_pos hj]
  icases HB with ⟨Hat, Hc⟩
  iapply (Rounds.wp_wait_rest_token 𝒱₀ ER (rd m ρ) (c : Thread nD τ) none (κ := K (c, kSend j))
      (wpE_waitDma2_eq 𝒱₀ (c : Thread nD τ) none Set.univ) (Set.mem_univ _) () (O := 0) (W := W) (R := 0) (m := 0) (T := ∅)
      (by rw [Nat.zero_add, expect_send m ρ c j hj])) $$ [Hc HO Hat]
  · isplitr; · iapply (inv_send m ρ K c j); iexact HI
    isplitl [Hc]; · iexact Hc
    isplitl [HO]; · iexact HO
    isplitr; · rw [MayWait_zero]; iempintro
    iexact Hat
  iintro ⟨HO, Hat, -, Hpay⟩
  ihave Hpay := (Entails.of_eq (rest_send m ρ c j hj)) $$ Hpay
  iapply h
  unfold DoneSt owing
  isplitr [HR]
  · isplitr; · iexact HI
    isplitl [HO]; · iexists _; iexact HO
    iapply HP; unfold doneLeft; rw [if_pos hj]
    isplitl [Hat]; · iexact Hat
    iexact Hpay
  · iexact HR

theorem done_skip (j : Fin 16) (hj : ¬c.val < j.val) : DoneSt m ρ K c j.val ⊢ DoneSt m ρ K c (j.val + 1) := by
  unfold DoneSt
  iintro ⟨HI, HO, HP⟩
  isplitl [HI]; · iexact HI
  isplitl [HO]; · iexact HO
  ihave HP := (prog_step (doneLeft m ρ c) (doneTodo m ρ c) j) $$ HP
  icases HP with ⟨HB, HP⟩
  iapply HP
  unfold doneTodo doneLeft sendLeft
  rw [if_neg hj, if_neg hj]
  iexact HB

theorem done_step (j : Fin 16) {b : BitVec 1} (hb : b = 1#1 ↔ c.val < j.val)
    {off : Fin 3 → Nat} (hoff : off = ![c.val, 0, 0])
    {inb0 : ∀ a, (![j.val] : Fin 1 → Nat) a + S1.size a ≤ S16.size a}
    {inb2 : b = 1#1 → ∀ a, off a + S1x8x1024.size a ≤ S16x8x1024.size a}
    (hw : (sendM : Memref sig .tc .vmem S8x1024 .f32).IsWhole)
    (h : iprop(DoneSt m ρ K c (j.val + 1) ∗ R) ⊢ run c (k ⟨⟩) Q) :
    iprop(DoneSt m ρ K c j.val ∗ R) ⊢ run c
      (if h : b = 1#1 then
        Prog.lift (.waitDma2 ((sendS.slice (Rect.unit (s := S16) ![j.val] S1.size inb0)).squeeze S_ squeezes_S1_S_).sem
          ((commM.slice (Rect.unit (s := S16x8x1024) off S1x8x1024.size (inb2 h)) (fun _ => rfl)).squeeze S8x1024 squeezes_S1x8x1024_S8x1024)
          sendM ((View.wordExact_bits rfl).reshape _ _) hw.wordExact) >>= k
      else k ⟨⟩) Q := by
  subst hoff
  by_cases hj : c.val < j.val
  · rw [dif_pos (hb.mpr hj)]
    exact done_op m ρ K c j hj (sendSem_eq j _) h
  · rw [dif_neg fun hh => hj (hb.mp hh)]
    exact (sep_mono_left (done_skip m ρ K c j hj)).trans h

/-! ## The last wait -/

theorem end_wait (h : iprop(owing (F := F) c 0 ∗ atPos ER (endCell c) 1 ∅ 0 ∗ R) ⊢ run c (k ⟨⟩) Q) :
    iprop((records m ρ K ∗ cred (tallyAt (endCell c) () 16) ∗ atPos ER (endCell c) 0 ∅ 0 ∗ owing (F := F) c 0) ∗ R)
      ⊢ run c (semWaitWord endS 16#32 >>= k) Q := by
  show _ ⊢ run c (.op (.semWait endS (16#32 : BitVec 32).toInt) fun x => Prog.ret x >>= k) Q
  unfold owing at *
  iintro ⟨⟨#HI, Hc, Hat, ⟨%W, HO⟩⟩, HR⟩
  iapply (Rounds.wp_wait_rest_token 𝒱₀ ER (rd m ρ) (c : Thread nD τ) none (κ := K (c, 1))
      (wpE_semWait_eq 𝒱₀ (c : Thread nD τ) none Set.univ) (Set.mem_univ _) () (O := 0) (W := W) (R := 0) (m := 0) (T := ∅)
      (by rw [expect_end]; decide)) $$ [Hc HO Hat]
  · isplitr; · iapply (inv_at m ρ K (c, 1)); iexact HI
    isplitl [Hc]; · iexact Hc
    isplitl [HO]; · iexact HO
    isplitr; · rw [MayWait_zero]; iempintro
    iexact Hat
  iintro ⟨HO, Hat, -, -⟩
  iapply h
  isplitl [HO]; · iexists _; iexact HO
  isplitl [Hat]; · iexact Hat
  iexact HR

end Cert.KernelIdeal.Scan

end
-- ==== Proof.IdealParts.lean ====
/- The first three parts of the scan kernel's body, each run from what the device has in hand at its start to what it has at
   its end, by one rule per step. -/
module

public import proofs.«01_k».proof.Proof.IdealSteps

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 34 → ℕ) (c : Dev nD)
variable (hx : (xM : Memref sig .tc .vmem S512x512 .f32).IsWhole) (ho : (oM : Memref sig .tc .vmem S512x512 .f32).IsWhole)
  (hc : (commM : Memref sig .tc .vmem S16x8x1024 .f32).IsWhole) (hs : (sendM : Memref sig .tc .vmem S8x1024 .f32).IsWhole)
variable {P R : sProp (MT nD τ sig Unit (Elt F) ℕ UU ℕ)}

/-- The device's own number as a word. -/
abbrev me : BitVec 32 := BitVec.ofNat 32 c.val

theorem recv_bit : ∀ (j : Fin 16) (c : Dev nD),
    Scalar.cmpi .ne (Scalar.extui (Scalar.cmpi .sgt (me c) (BitVec.ofNat 32 j.val)) : BitVec 32) 0#32 = 1#1 ↔ j.val < c.val := by
  decide +kernel

theorem me_eq : ∀ c : Dev nD, Scalar.remsi (Scalar.divsi (Dev.word c) 1#32) 16#32 = me c := by decide +kernel

theorem ret_step {α : Type} {Q : α → sProp 𝕄} {a : α} (h : P ⊢ Q a) : P ⊢ run c (pure a) Q := by
  rw [Prog.pure_eq_ret]
  unfold run
  rw [wp_ret]
  iintro H; imodintro; iapply h; iexact H

theorem run_bind {α β : Type} {p : Prog (TpuEff nD τ sig (Elt F) Λ₀ .tc) α} {k : α → Prog (TpuEff nD τ sig (Elt F) Λ₀ .tc) β} {Q : β → sProp 𝕄}
    (h : P ⊢ run c p fun a => run c (k a) Q) : P ⊢ run c (p >>= k) Q := by
  unfold run at *
  rw [wp_bind]
  exact h

theorem deviceId_step {α : Type} {Q : α → sProp 𝕄} {k : Dev nD → Prog (TpuEff nD τ sig (Elt F) Λ₀ .tc) α}
    (h : P ⊢ run c (k c) Q) : P ⊢ run c (Prog.lift .deviceId >>= k) Q := by
  simp only [Prog.lift, Prog.bind_op, Prog.bind_ret]
  unfold run at *
  rw [wp_deviceId]
  exact h

/-! ## The buffers the body reads and writes whole -/

theorem hz2 : (![0, 0] : Fin 2 → Nat) = fun _ => 0 := funext fun a => by fin_cases a <;> rfl
theorem hz3 : (![0, 0, 0] : Fin 3 → Nat) = fun _ => 0 := funext fun a => by fin_cases a <;> rfl

def xPts (f : (cc0_stg0_0 : Ref sig .tc).ty.Contents (Elt F)) : sProp 𝕄 := (c : Thread nD τ).loc cc0_stg0_0 ↦{fullShare} f
def oPts (f : (cc0_stg1_0 : Ref sig .tc).ty.Contents (Elt F)) : sProp 𝕄 := (c : Thread nD τ).loc cc0_stg1_0 ↦{fullShare} f
def commPts (f : (cc0_scratch0 : Ref sig .tc).ty.Contents (Elt F)) : sProp 𝕄 := (c : Thread nD τ).loc cc0_scratch0 ↦{fullShare} f
def sendPts (f : (cc0_scratch1 : Ref sig .tc).ty.Contents (Elt F)) : sProp 𝕄 := (c : Thread nD τ).loc cc0_scratch1 ↦{fullShare} f

section Whole
variable {α : Type} {Q : α → sProp (MT nD τ sig Unit (Elt F) ℕ UU ℕ)}

theorem comm_load {inb : ∀ a, (![0, 0, 0] : Fin 3 → Nat) a + S16x8x1024.size a ≤ S16x8x1024.size a}
    {hl : (commM : Memref sig .tc .vmem S16x8x1024 .f32).view.LoadsAt (Rect.unit (s := S16x8x1024) ![0, 0, 0] S16x8x1024.size inb).toLoadRect}
    {k : (S16x8x1024.Idx → Elt F .f32) → Prog (TpuEff nD τ sig (Elt F) Λ₀ .tc) α} (f : (cc0_scratch0 : Ref sig .tc).ty.Contents (Elt F))
    (h : iprop(commPts c f ∗ R) ⊢ run c (k f) Q) :
    iprop(commPts c f ∗ R) ⊢ run c
      (Prog.lift (.load commM (Rect.unit (s := S16x8x1024) ![0, 0, 0] S16x8x1024.size inb).toLoadRect hl) >>= k) Q := by
  simp only [Prog.lift, Prog.bind_op, Prog.bind_ret]
  unfold commPts at *
  iintro ⟨Hf, HR⟩
  iapply (wp_load 𝒱₀ (c : Thread nD τ) none Set.univ (m := commM) (Finset.subset_univ _)) $$ Hf
  iintro Hf
  rw [show (commM : Memref sig .tc .vmem S16x8x1024 .f32).view.readAt (Elt F) (Rect.unit (s := S16x8x1024) ![0, 0, 0] S16x8x1024.size inb).toLoadRect f = f from
    Memref.readAt_unit_zero (Elt F) cc0_scratch0 hz3 inb f]
  iapply h
  isplitl [Hf]; · iexact Hf
  iexact HR

theorem comm_store {inb : ∀ a, (![0, 0, 0] : Fin 3 → Nat) a + S16x8x1024.size a ≤ S16x8x1024.size a}
    {k : PUnit → Prog (TpuEff nD τ sig (Elt F) Λ₀ .tc) α} (f w : (cc0_scratch0 : Ref sig .tc).ty.Contents (Elt F))
    {hl : ((commM : Memref sig .tc .vmem S16x8x1024 .f32).access (Rect.unit (s := S16x8x1024) ![0, 0, 0] S16x8x1024.size inb)).Stores Finset.univ} {hm}
    (h : iprop(commPts c w ∗ R) ⊢ run c (k ⟨⟩) Q) :
    iprop(commPts c f ∗ R) ⊢ run c
      (Prog.lift (.store (commM : Memref sig .tc .vmem S16x8x1024 .f32) (Rect.unit (s := S16x8x1024) ![0, 0, 0] S16x8x1024.size inb) w Finset.univ hl hm) >>= k) Q := by
  simp only [Prog.lift, Prog.bind_op, Prog.bind_ret]
  unfold commPts at *
  iintro ⟨Hf, HR⟩
  iapply (wp_store 𝒱₀ (c : Thread nD τ) none Set.univ (m := commM) (r := Rect.unit (s := S16x8x1024) ![0, 0, 0] S16x8x1024.size inb) (f := f)
    (Finset.subset_univ _)) $$ Hf
  iintro Hf
  iapply h
  isplitl [Hf]
  · iapply (Entails.of_eq (congrArg (fun X => ((c : Thread nD τ).loc cc0_scratch0 ↦{fullShare} X : sProp 𝕄))
      (Memref.write_access_unit_zero_univ (Elt F) cc0_scratch0 hz3 inb f w)))
    iexact Hf
  · iexact HR

theorem send_load {inb : ∀ a, (![0, 0] : Fin 2 → Nat) a + S8x1024.size a ≤ S8x1024.size a}
    {hl : (sendM : Memref sig .tc .vmem S8x1024 .f32).view.LoadsAt (Rect.unit (s := S8x1024) ![0, 0] S8x1024.size inb).toLoadRect}
    {k : (S8x1024.Idx → Elt F .f32) → Prog (TpuEff nD τ sig (Elt F) Λ₀ .tc) α} (f : (cc0_scratch1 : Ref sig .tc).ty.Contents (Elt F))
    (h : iprop(sendPts c f ∗ R) ⊢ run c (k f) Q) :
    iprop(sendPts c f ∗ R) ⊢ run c
      (Prog.lift (.load sendM (Rect.unit (s := S8x1024) ![0, 0] S8x1024.size inb).toLoadRect hl) >>= k) Q := by
  simp only [Prog.lift, Prog.bind_op, Prog.bind_ret]
  unfold sendPts at *
  iintro ⟨Hf, HR⟩
  iapply (wp_load 𝒱₀ (c : Thread nD τ) none Set.univ (m := sendM) (Finset.subset_univ _)) $$ Hf
  iintro Hf
  rw [show (sendM : Memref sig .tc .vmem S8x1024 .f32).view.readAt (Elt F) (Rect.unit (s := S8x1024) ![0, 0] S8x1024.size inb).toLoadRect f = f from
    Memref.readAt_unit_zero (Elt F) cc0_scratch1 hz2 inb f]
  iapply h
  isplitl [Hf]; · iexact Hf
  iexact HR

theorem send_store {inb : ∀ a, (![0, 0] : Fin 2 → Nat) a + S8x1024.size a ≤ S8x1024.size a}
    {k : PUnit → Prog (TpuEff nD τ sig (Elt F) Λ₀ .tc) α} (f w : (cc0_scratch1 : Ref sig .tc).ty.Contents (Elt F))
    {hl : ((sendM : Memref sig .tc .vmem S8x1024 .f32).access (Rect.unit (s := S8x1024) ![0, 0] S8x1024.size inb)).Stores Finset.univ} {hm}
    (h : iprop(sendPts c w ∗ R) ⊢ run c (k ⟨⟩) Q) :
    iprop(sendPts c f ∗ R) ⊢ run c
      (Prog.lift (.store (sendM : Memref sig .tc .vmem S8x1024 .f32) (Rect.unit (s := S8x1024) ![0, 0] S8x1024.size inb) w Finset.univ hl hm) >>= k) Q := by
  simp only [Prog.lift, Prog.bind_op, Prog.bind_ret]
  unfold sendPts at *
  iintro ⟨Hf, HR⟩
  iapply (wp_store 𝒱₀ (c : Thread nD τ) none Set.univ (m := sendM) (r := Rect.unit (s := S8x1024) ![0, 0] S8x1024.size inb) (f := f)
    (Finset.subset_univ _)) $$ Hf
  iintro Hf
  iapply h
  isplitl [Hf]
  · iapply (Entails.of_eq (congrArg (fun X => ((c : Thread nD τ).loc cc0_scratch1 ↦{fullShare} X : sProp 𝕄))
      (Memref.write_access_unit_zero_univ (Elt F) cc0_scratch1 hz2 inb f w)))
    iexact Hf
  · iexact HR

theorem x_load {inb : ∀ a, (![0, 0] : Fin 2 → Nat) a + S512x512.size a ≤ S512x512.size a}
    {hl : (xM : Memref sig .tc .vmem S512x512 .f32).view.LoadsAt (Rect.unit (s := S512x512) ![0, 0] S512x512.size inb).toLoadRect}
    {k : (S512x512.Idx → Elt F .f32) → Prog (TpuEff nD τ sig (Elt F) Λ₀ .tc) α} (f : (cc0_stg0_0 : Ref sig .tc).ty.Contents (Elt F))
    (h : iprop(xPts c f ∗ R) ⊢ run c (k f) Q) :
    iprop(xPts c f ∗ R) ⊢ run c
      (Prog.lift (.load xM (Rect.unit (s := S512x512) ![0, 0] S512x512.size inb).toLoadRect hl) >>= k) Q := by
  simp only [Prog.lift, Prog.bind_op, Prog.bind_ret]
  unfold xPts at *
  iintro ⟨Hf, HR⟩
  iapply (wp_load 𝒱₀ (c : Thread nD τ) none Set.univ (m := xM) (Finset.subset_univ _)) $$ Hf
  iintro Hf
  rw [show (xM : Memref sig .tc .vmem S512x512 .f32).view.readAt (Elt F) (Rect.unit (s := S512x512) ![0, 0] S512x512.size inb).toLoadRect f = f from
    Memref.readAt_unit_zero (Elt F) cc0_stg0_0 hz2 inb f]
  iapply h
  isplitl [Hf]; · iexact Hf
  iexact HR

theorem o_load {inb : ∀ a, (![0, 0] : Fin 2 → Nat) a + S512x512.size a ≤ S512x512.size a}
    {hl : (oM : Memref sig .tc .vmem S512x512 .f32).view.LoadsAt (Rect.unit (s := S512x512) ![0, 0] S512x512.size inb).toLoadRect}
    {k : (S512x512.Idx → Elt F .f32) → Prog (TpuEff nD τ sig (Elt F) Λ₀ .tc) α} (f : (cc0_stg1_0 : Ref sig .tc).ty.Contents (Elt F))
    (h : iprop(oPts c f ∗ R) ⊢ run c (k f) Q) :
    iprop(oPts c f ∗ R) ⊢ run c
      (Prog.lift (.load oM (Rect.unit (s := S512x512) ![0, 0] S512x512.size inb).toLoadRect hl) >>= k) Q := by
  simp only [Prog.lift, Prog.bind_op, Prog.bind_ret]
  unfold oPts at *
  iintro ⟨Hf, HR⟩
  iapply (wp_load 𝒱₀ (c : Thread nD τ) none Set.univ (m := oM) (Finset.subset_univ _)) $$ Hf
  iintro Hf
  rw [show (oM : Memref sig .tc .vmem S512x512 .f32).view.readAt (Elt F) (Rect.unit (s := S512x512) ![0, 0] S512x512.size inb).toLoadRect f = f from
    Memref.readAt_unit_zero (Elt F) cc0_stg1_0 hz2 inb f]
  iapply h
  isplitl [Hf]; · iexact Hf
  iexact HR

theorem o_store {inb : ∀ a, (![0, 0] : Fin 2 → Nat) a + S512x512.size a ≤ S512x512.size a}
    {k : PUnit → Prog (TpuEff nD τ sig (Elt F) Λ₀ .tc) α} (f w : (cc0_stg1_0 : Ref sig .tc).ty.Contents (Elt F))
    {hl : ((oM : Memref sig .tc .vmem S512x512 .f32).access (Rect.unit (s := S512x512) ![0, 0] S512x512.size inb)).Stores Finset.univ} {hm}
    (h : iprop(oPts c w ∗ R) ⊢ run c (k ⟨⟩) Q) :
    iprop(oPts c f ∗ R) ⊢ run c
      (Prog.lift (.store (oM : Memref sig .tc .vmem S512x512 .f32) (Rect.unit (s := S512x512) ![0, 0] S512x512.size inb) w Finset.univ hl hm) >>= k) Q := by
  simp only [Prog.lift, Prog.bind_op, Prog.bind_ret]
  unfold oPts at *
  iintro ⟨Hf, HR⟩
  iapply (wp_store 𝒱₀ (c : Thread nD τ) none Set.univ (m := oM) (r := Rect.unit (s := S512x512) ![0, 0] S512x512.size inb) (f := f)
    (Finset.subset_univ _)) $$ Hf
  iintro Hf
  iapply h
  isplitl [Hf]
  · iapply (Entails.of_eq (congrArg (fun X => ((c : Thread nD τ).loc cc0_stg1_0 ↦{fullShare} X : sProp 𝕄))
      (Memref.write_access_unit_zero_univ (Elt F) cc0_stg1_0 hz2 inb f w)))
    iexact Hf
  · iexact HR

end Whole

/-! ## The landing buffer as its sixteen slots, the send buffer as its sixteen shares -/

/-- The elements of slot `j`. -/
def slotSet (j : Fin 16) : Finset (cc0_scratch0 : Ref sig .tc).ty.Idx := (slotR j).set

theorem slotSet_eq (j : Fin 16) : (slotM j).view.set = slotSet j :=
  (View.set_reshape _ _).trans (View.set_slice_whole cc0_scratch0 (slotR j))

theorem slot_disjoint (i j : Fin 16) (h : i ≠ j) : Disjoint (slotSet i) (slotSet j) := by
  refine Rect.unit_disjoint 0 ?_
  have : i.val ≠ j.val := fun e => h (Fin.ext e)
  show i.val + 1 ≤ j.val ∨ j.val + 1 ≤ i.val
  omega

theorem slot_cover : Finset.univ.biUnion slotSet = Finset.univ := by
  refine Finset.eq_univ_iff_forall.mpr fun i => Finset.mem_biUnion.mpr ⟨(i 0 : Fin 16), Finset.mem_univ _, ?_⟩
  refine Rect.mem_set_unit.mpr fun a => ?_
  fin_cases a
  · exact ⟨le_refl _, Nat.lt_succ_self _⟩
  · exact ⟨Nat.zero_le _, lt_of_lt_of_eq (i 1).isLt rfl⟩
  · exact ⟨Nat.zero_le _, lt_of_lt_of_eq (i 2).isLt rfl⟩

theorem slot_of_block (j : Fin 16) (f : (cc0_scratch0 : Ref sig .tc).ty.Contents (Elt F)) :
    ((c : Thread nD τ).loc cc0_scratch0 ↦[slotSet j]{fullShare} f : sProp 𝕄) ⊢ slot c j ((slotM j).view.read (Elt F) f) := by
  rw [← slotSet_eq]
  unfold slot owns
  iintro H
  iexists f
  isplitr
  · ipureintro; rfl
  · iexact H

theorem block_of_slot (j : Fin 16) (V : S8x1024.Idx → Elt F .f32) :
    slot c j V ⊢ iprop(∃ f, (c : Thread nD τ).loc cc0_scratch0 ↦[slotSet j]{fullShare} f) := by
  rw [← slotSet_eq]
  unfold slot owns
  iintro ⟨%f, -, H⟩
  iexists f
  iexact H

theorem comm_split : commPts c (k0_pay1 (F := F)) ⊢ bigSep Finset.univ fun j : Fin 16 => slot c j (zero j) := by
  unfold commPts
  rw [Ring.pointsTo_blocks (ℓ := (c : Thread nD τ).loc cc0_scratch0) slotSet slot_disjoint slot_cover]
  exact bigSep_mono fun j _ => slot_of_block c j _

theorem comm_join (V : Fin 16 → S8x1024.Idx → Elt F .f32) :
    bigSep Finset.univ (fun j : Fin 16 => slot c j (V j)) ⊢ iprop(∃ f, commPts c f) :=
  BI.Entails.trans (bigSep_mono fun j _ => block_of_slot c j (V j))
    (Ring.pointsTo_blocks_join_exists (ℓ := (c : Thread nD τ).loc cc0_scratch0) slotSet slot_disjoint slot_cover (k0_pay1 (F := F)))

theorem send_split : sendPts c (tot m ρ c) = bigSep Finset.univ (piece m ρ c) := by
  refine (ShareLeaves.pointsTo_leaves (ℓ := (c : Thread nD τ).loc cc0_scratch1) Finset.univ (tot m ρ c) 4 fullShare).trans ?_
  refine bigSep_congr fun j _ => ?_
  unfold piece
  rw [show (sendM : Memref sig .tc .vmem S8x1024 .f32).view.set = Finset.univ from View.set_whole _]

/-! ## Passing from one phase to the next -/

theorem pair_split (A B : Fin 16 → sProp 𝕄) :
    bigSep Finset.univ (fun j => iprop(A j ∗ B j)) = iprop(bigSep Finset.univ A ∗ bigSep Finset.univ B) := bigSep_sep _ _ _

theorem bar_start : iprop(records m ρ K ∗ owing (F := F) c (O₀ c) ∗ bigSep Finset.univ (fun j : Fin 16 => dutyTok ER (barCell j) 0 c) ∗ commPts c (k0_pay1 (F := F)))
    ⊢ BarSt m ρ K c 0 := by
  unfold BarSt barTodo
  rw [prog_zero, pair_split]
  iintro ⟨HI, HO, Ht, Hc⟩
  isplitl [HI]; · iexact HI
  isplitl [HO]; · iexact HO
  isplitl [Ht]; · iexact Ht
  iapply (comm_split c); iexact Hc

theorem bar_finish {n : ℕ} (hn : n = 16) : BarSt m ρ K c n
    ⊢ iprop(records m ρ K ∗ owing (F := F) c (sumFrom oweEnd 0 + sumFrom (oweRecv c) 0) ∗ bigSep Finset.univ (barLeft (F := F) c)) := by
  subst hn
  unfold BarSt
  rw [prog_end, sumFrom_end, add_zero]

theorem send_start : iprop(records m ρ K ∗ owing (F := F) c (sumFrom oweEnd 0 + sumFrom (oweRecv c) 0) ∗ bigSep Finset.univ (given (F := F) c)
      ∗ bigSep Finset.univ (fun j : Fin 16 => iprop(dutyTok ER (sendCell c j) 0 c ∗ dutyTok ER (recvCell j c) 0 j)) ∗ sendPts c (tot m ρ c))
    ⊢ SendSt m ρ K c 0 := by
  unfold SendSt sendTodo
  rw [prog_zero, pair_split (fun j => iprop(dutyTok ER (sendCell c j) 0 c ∗ dutyTok ER (recvCell j c) 0 j)) (fun j => iprop(given (F := F) c j ∗ piece m ρ c j)),
    pair_split (given (F := F) c) (piece m ρ c), send_split]
  iintro ⟨HI, HO, Hg, Ht, Hs⟩
  isplitl [HI]; · iexact HI
  isplitl [HO]; · iexact HO
  isplitl [Ht]; · iexact Ht
  isplitl [Hg]; · iexact Hg
  iexact Hs

theorem send_finish {n : ℕ} (hn : n = 16) : SendSt m ρ K c n
    ⊢ iprop(records m ρ K ∗ owing (F := F) c (sumFrom oweEnd 0) ∗ bigSep Finset.univ (sendLeft m ρ c)) := by
  subst hn
  unfold SendSt
  rw [prog_end, sumFrom_end, add_zero]

/-- The credit for what an earlier device sends. -/
def recvCred (j : Fin 16) : sProp 𝕄 := if j.val < c.val then cred (tallyAt (recvCell c j) () N) else iprop(emp)

theorem recv_given (j : Fin 16) : iprop(atPos ER (recvCell c j) 0 ∅ 0 ∗ recvCred (F := F) c j ∗ barLeft c j) ⊢ recvTodo (F := F) c j := by
  unfold recvCred barLeft recvTodo
  split
  · iintro ⟨Ha, Hc, -⟩
    isplitl [Ha]; · iexact Ha
    iexact Hc
  · iintro ⟨Ha, -, Hs⟩
    isplitl [Ha]; · iexact Ha
    iexact Hs

theorem recv_start : iprop(records m ρ K ∗ levAts L lv ∗ owing (F := F) c (sumFrom oweEnd 0) ∗ bigSep Finset.univ (fun j : Fin 16 => atPos ER (recvCell c j) 0 ∅ 0)
      ∗ bigSep Finset.univ (recvCred (F := F) c) ∗ bigSep Finset.univ (barLeft (F := F) c)) ⊢ RecvSt m ρ K c 0 := by
  unfold RecvSt
  rw [prog_zero]
  iintro ⟨HI, Hl, HO, H⟩
  isplitl [HI]; · iexact HI
  isplitl [Hl]; · iexact Hl
  isplitl [HO]; · iexact HO
  have h : iprop(bigSep Finset.univ (fun j : Fin 16 => atPos ER (recvCell c j) 0 ∅ 0)
      ∗ bigSep Finset.univ (recvCred (F := F) c) ∗ bigSep Finset.univ (barLeft (F := F) c)) ⊢ bigSep Finset.univ (recvTodo (F := F) c) := by
    rw [← pair_split, ← pair_split]
    exact bigSep_mono fun j _ => recv_given c j
  iapply h; iexact H

theorem recv_finish {n : ℕ} (hn : n = 16) : RecvSt m ρ K c n
    ⊢ iprop(records m ρ K ∗ owing (F := F) c (sumFrom oweEnd 0)
      ∗ bigSep Finset.univ (fun j : Fin 16 => atPos ER (recvCell c j) (if j.val < c.val then 1 else 0) ∅ 0) ∗ LoadSt m ρ c) := by
  subst hn
  unfold RecvSt recvLeft LoadSt
  rw [prog_end, pair_split]
  iintro ⟨HI, -, HO, H⟩
  isplitl [HI]; · iexact HI
  isplitl [HO]; · iexact HO
  iexact H

theorem end_start : iprop(records m ρ K ∗ owing (F := F) c (sumFrom oweEnd 0) ∗ bigSep Finset.univ (fun j : Fin 16 => dutyTok ER (endCell j) 0 c)) ⊢ EndSt m ρ K c 0 := by
  unfold EndSt
  rw [prog_zero]

theorem end_finish {n : ℕ} (hn : n = 16) : EndSt m ρ K c n ⊢ iprop(records m ρ K ∗ owing (F := F) c 0) := by
  subst hn
  unfold EndSt
  rw [sumFrom_end]
  iintro ⟨HI, HO, -⟩
  isplitl [HI]; · iexact HI
  iexact HO

theorem done_start : iprop(records m ρ K ∗ owing (F := F) c 0 ∗ bigSep Finset.univ (fun j : Fin 16 => atPos ER (sendCell c j) 0 ∅ 0)
      ∗ bigSep Finset.univ (sendLeft m ρ c)) ⊢ DoneSt m ρ K c 0 := by
  unfold DoneSt doneTodo
  rw [prog_zero, pair_split]

theorem done_finish {n : ℕ} (hn : n = 16) : DoneSt m ρ K c n
    ⊢ iprop(records m ρ K ∗ owing (F := F) c 0 ∗ bigSep Finset.univ (fun j : Fin 16 => atPos ER (sendCell c j) (if c.val < j.val then 1 else 0) ∅ 0)
      ∗ sendPts c (tot m ρ c)) := by
  subst hn
  unfold DoneSt doneLeft
  rw [prog_end, pair_split, send_split]

/-! ## The parts -/

theorem part1_run {Q : (Σ' (_ : Dev nD) (_ : BitVec 32) (_ : Sems sig S_), BitVec 32) → sProp 𝕄} (f : (cc0_scratch0 : Ref sig .tc).ty.Contents (Elt F))
    (h : iprop(BarSt m ρ K c 6 ∗ R) ⊢ Q ⟨c, me c, SemArray.scalar (sig.barrier 0 rfl), 6#32⟩) :
    iprop(commPts c f ∗ records m ρ K ∗ owing (F := F) c (O₀ c) ∗ bigSep Finset.univ (fun j : Fin 16 => dutyTok ER (barCell j) 0 c) ∗ R)
      ⊢ run c (k0_part1 xM hx oM ho commM hc sendM hs sendS recvS cc0_scoped0) Q := by
  rw [k0_part1_eq_skeleton]
  unfold k0_part1_skel
  refine deviceId_step c ?_
  refine comm_load c f ?_
  refine comm_store c f _ ?_
  refine (show _ ⊢ iprop(BarSt m ρ K c 0 ∗ R) from ?_).trans ?_
  · iintro ⟨Hc, HI, HO, Ht, HR⟩
    isplitr [HR]
    · iapply (bar_start m ρ K c)
      isplitl [HI]; · iexact HI
      isplitl [HO]; · iexact HO
      isplitl [Ht]; · iexact Ht
      iexact Hc
    · iexact HR
  refine bar_step m ρ K c 0 k0_dev1_eq ?_
  refine bar_step m ρ K c 1 k0_dev2_eq ?_
  refine bar_step m ρ K c 2 k0_dev3_eq ?_
  refine bar_step m ρ K c 3 k0_dev4_eq ?_
  refine bar_step m ρ K c 4 k0_dev5_eq ?_
  refine bar_step m ρ K c 5 k0_dev6_eq ?_
  refine ret_step c ?_
  rw [me_eq]
  exact h

theorem part2_run (v7 : Sems sig S_) (hv7 : v7 = SemArray.scalar (sig.barrier 0 rfl)) (v : BitVec 32) {Q : PUnit → sProp 𝕄} (h : iprop(BarSt m ρ K c 14 ∗ R) ⊢ Q ⟨⟩) :
    iprop(BarSt m ρ K c 6 ∗ R) ⊢ run c (k0_part2 xM hx oM ho commM hc sendM hs sendS recvS cc0_scoped0 v7 v) Q := by
  subst hv7
  rw [k0_part2_eq_skeleton]
  unfold k0_part2_skel
  refine bar_step m ρ K c 6 k0_dev7_eq ?_
  refine bar_step m ρ K c 7 k0_dev8_eq ?_
  refine bar_step m ρ K c 8 k0_dev9_eq ?_
  refine bar_step m ρ K c 9 k0_dev10_eq ?_
  refine bar_step m ρ K c 10 k0_dev11_eq ?_
  refine bar_step m ρ K c 11 k0_dev12_eq ?_
  refine bar_step m ρ K c 12 k0_dev13_eq ?_
  refine bar_step m ρ K c 13 k0_dev14_eq ?_
  exact ret_step c h

theorem part3_run (v2 : BitVec 32) {Q : (Σ' (_ : FVec F S512x512 .f32) (_ : FVec F S512x512 .f32), BitVec 1) → sProp 𝕄} (f : (cc0_scratch1 : Ref sig .tc).ty.Contents (Elt F))
    (h : ∀ b, iprop(SendSt m ρ K c 3 ∗ xPts c (xstg m ρ c) ∗ atPos ER (barCell c) 1 ∅ 0 ∗ bigSep Finset.univ (barLeft (F := F) c) ∗ R)
      ⊢ Q ⟨k0_pay3 (xstg m ρ c), k0_pay4 (xstg m ρ c), b⟩) :
    iprop(BarSt m ρ K c 14 ∗ xPts c (xstg m ρ c) ∗ sendPts c f ∗ levAts L lv ∗ cred (tallyAt (barCell c) () 16) ∗ atPos ER (barCell c) 0 ∅ 0
        ∗ bigSep Finset.univ (fun j : Fin 16 => iprop(dutyTok ER (sendCell c j) 0 c ∗ dutyTok ER (recvCell j c) 0 j)) ∗ R)
      ⊢ run c (k0_part3 xM hx oM ho commM hc sendM hs sendS recvS cc0_scoped0 c v2 (SemArray.scalar (sig.barrier 0 rfl))) Q := by
  rw [k0_part3_eq_skeleton]
  unfold k0_part3_skel
  refine bar_step m ρ K c 14 k0_dev15_eq ?_
  refine bar_step m ρ K c 15 k0_dev16_eq ?_
  refine (show _ ⊢ iprop(xPts c (xstg m ρ c) ∗ (sendPts c f ∗ (records m ρ K ∗ owing (F := F) c (sumFrom oweEnd 0 + sumFrom (oweRecv c) 0))
      ∗ levAts L lv ∗ cred (tallyAt (barCell c) () 16) ∗ atPos ER (barCell c) 0 ∅ 0
      ∗ bigSep Finset.univ (fun j : Fin 16 => iprop(dutyTok ER (sendCell c j) 0 c ∗ dutyTok ER (recvCell j c) 0 j))
      ∗ bigSep Finset.univ (barLeft (F := F) c) ∗ R)) from ?_).trans ?_
  · iintro ⟨HB, Hx, Hs, Hl, Hc, Ha, Ht, HR⟩
    ihave HB := (bar_finish m ρ K c (n := (15 : Fin 16).val + 1) rfl) $$ HB
    icases HB with ⟨HI, HO, HB⟩
    isplitl [Hx]; · iexact Hx
    isplitl [Hs]; · iexact Hs
    isplitl [HI HO]
    · isplitl [HI]; · iexact HI
      iexact HO
    isplitl [Hl]; · iexact Hl
    isplitl [Hc]; · iexact Hc
    isplitl [Ha]; · iexact Ha
    isplitl [Ht]; · iexact Ht
    isplitl [HB]; · iexact HB
    iexact HR
  refine x_load c _ ?_
  refine (show _ ⊢ iprop(sendPts c f ∗ (xPts c (xstg m ρ c) ∗ (records m ρ K ∗ owing (F := F) c (sumFrom oweEnd 0 + sumFrom (oweRecv c) 0))
      ∗ levAts L lv ∗ cred (tallyAt (barCell c) () 16) ∗ atPos ER (barCell c) 0 ∅ 0
      ∗ bigSep Finset.univ (fun j : Fin 16 => iprop(dutyTok ER (sendCell c j) 0 c ∗ dutyTok ER (recvCell j c) 0 j))
      ∗ bigSep Finset.univ (barLeft (F := F) c) ∗ R)) from ?_).trans ?_
  · iintro ⟨Hx, Hs, HR⟩
    isplitl [Hs]; · iexact Hs
    isplitl [Hx]; · iexact Hx
    iexact HR
  refine send_load c _ ?_
  refine send_store c _ _ ?_
  refine (show _ ⊢ iprop((records m ρ K ∗ levAts L lv ∗ cred (tallyAt (barCell c) () 16) ∗ atPos ER (barCell c) 0 ∅ 0
      ∗ owing (F := F) c (sumFrom oweEnd 0 + sumFrom (oweRecv c) 0)) ∗ (records m ρ K ∗ sendPts c (tot m ρ c) ∗ xPts c (xstg m ρ c)
      ∗ bigSep Finset.univ (fun j : Fin 16 => iprop(dutyTok ER (sendCell c j) 0 c ∗ dutyTok ER (recvCell j c) 0 j))
      ∗ bigSep Finset.univ (barLeft (F := F) c) ∗ R)) from ?_).trans ?_
  · iintro ⟨Hs, Hx, ⟨#HI, HO⟩, Hl, Hc, Ha, Ht, HB, HR⟩
    isplitl [Hl Hc Ha HO]
    · isplitr; · iexact HI
      isplitl [Hl]; · iexact Hl
      isplitl [Hc]; · iexact Hc
      isplitl [Ha]; · iexact Ha
      iexact HO
    isplitr; · iexact HI
    isplitl [Hs]; · iexact Hs
    isplitl [Hx]; · iexact Hx
    isplitl [Ht]; · iexact Ht
    isplitl [HB]; · iexact HB
    iexact HR
  refine bar_wait m ρ K c ?_
  refine (show _ ⊢ iprop(SendSt m ρ K c 0 ∗ (xPts c (xstg m ρ c) ∗ atPos ER (barCell c) 1 ∅ 0 ∗ bigSep Finset.univ (barLeft (F := F) c) ∗ R)) from ?_).trans ?_
  · iintro ⟨HO, Ha, Hg, HI, Hs, Hx, Ht, HB, HR⟩
    isplitl [HO Hg HI Hs Ht]
    · iapply (send_start m ρ K c)
      isplitl [HI]; · iexact HI
      isplitl [HO]; · iexact HO
      isplitl [Hg]; · iexact Hg
      isplitl [Ht]; · iexact Ht
      iexact Hs
    isplitl [Hx]; · iexact Hx
    isplitl [Ha]; · iexact Ha
    isplitl [HB]; · iexact HB
    iexact HR
  refine send_step m ρ K c 0 ((by decide +kernel : ∀ d, k0_cond1 d = 1#1 ↔ d.val < 0) c) (k0_off1_eq c) (k0_off2_eq c) k0_dev17_eq hs ?_
  refine send_step m ρ K c 1 ((by decide +kernel : ∀ d, k0_cond2 d = 1#1 ↔ d.val < 1) c) (k0_off3_eq c) (k0_off4_eq c) k0_dev18_eq hs ?_
  refine send_step m ρ K c 2 ((by decide +kernel : ∀ d, k0_cond3 d = 1#1 ↔ d.val < 2) c) (k0_off5_eq c) (k0_off6_eq c) k0_dev19_eq hs ?_
  exact ret_step c (h _)

end Cert.KernelIdeal.Scan
end
-- ==== Proof.IdealSends.lean ====
/- Parts four to six of the scan kernel's body: the transfers, and the waits for those coming in. -/
module

public import proofs.«01_k».proof.Proof.IdealParts

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 34 → ℕ) (c : Dev nD)
variable (hx : (xM : Memref sig .tc .vmem S512x512 .f32).IsWhole) (ho : (oM : Memref sig .tc .vmem S512x512 .f32).IsWhole)
  (hc : (commM : Memref sig .tc .vmem S16x8x1024 .f32).IsWhole) (hs : (sendM : Memref sig .tc .vmem S8x1024 .f32).IsWhole)
variable {P R : sProp (MT nD τ sig Unit (Elt F) ℕ UU ℕ)}

set_option maxHeartbeats 1600000 in
theorem part4_run (v2 : BitVec 32) (b : BitVec 1) {Q : BitVec 1 → sProp 𝕄} (h : ∀ b, iprop(SendSt m ρ K c 13 ∗ R) ⊢ Q b) :
    iprop(SendSt m ρ K c 3 ∗ R) ⊢ run c (k0_part4 xM hx oM ho commM hc sendM hs sendS recvS cc0_scoped0 c v2 b) Q := by
  rw [k0_part4_eq_skeleton]
  unfold k0_part4_skel
  refine send_step m ρ K c 3 ((by decide +kernel : ∀ d, k0_cond4 d = 1#1 ↔ d.val < 3) c) (k0_off7_eq c) (k0_off8_eq c) k0_dev20_eq hs ?_
  refine send_step m ρ K c 4 ((by decide +kernel : ∀ d, k0_cond5 d = 1#1 ↔ d.val < 4) c) (k0_off9_eq c) (k0_off10_eq c) k0_dev21_eq hs ?_
  refine send_step m ρ K c 5 ((by decide +kernel : ∀ d, k0_cond6 d = 1#1 ↔ d.val < 5) c) (k0_off11_eq c) (k0_off12_eq c) k0_dev22_eq hs ?_
  refine send_step m ρ K c 6 ((by decide +kernel : ∀ d, k0_cond7 d = 1#1 ↔ d.val < 6) c) (k0_off13_eq c) (k0_off14_eq c) k0_dev23_eq hs ?_
  refine send_step m ρ K c 7 ((by decide +kernel : ∀ d, k0_cond8 d = 1#1 ↔ d.val < 7) c) (k0_off15_eq c) (k0_off16_eq c) k0_dev24_eq hs ?_
  refine send_step m ρ K c 8 ((by decide +kernel : ∀ d, k0_cond9 d = 1#1 ↔ d.val < 8) c) (k0_off17_eq c) (k0_off18_eq c) k0_dev25_eq hs ?_
  refine send_step m ρ K c 9 ((by decide +kernel : ∀ d, k0_cond10 d = 1#1 ↔ d.val < 9) c) (k0_off19_eq c) (k0_off20_eq c) k0_dev26_eq hs ?_
  refine send_step m ρ K c 10 ((by decide +kernel : ∀ d, k0_cond11 d = 1#1 ↔ d.val < 10) c) (k0_off21_eq c) (k0_off22_eq c) k0_dev27_eq hs ?_
  refine send_step m ρ K c 11 ((by decide +kernel : ∀ d, k0_cond12 d = 1#1 ↔ d.val < 11) c) (k0_off23_eq c) (k0_off24_eq c) k0_dev28_eq hs ?_
  refine send_step m ρ K c 12 ((by decide +kernel : ∀ d, k0_cond13 d = 1#1 ↔ d.val < 12) c) (k0_off25_eq c) (k0_off26_eq c) k0_dev29_eq hs ?_
  exact ret_step c (h _)

theorem part5_run (v43 v48 : FVec F S512x512 .f32) (b : BitVec 1) {Q : (Σ' (_ : FVec F S512x512 .f32), BitVec 32) → sProp 𝕄}
    (h : iprop(RecvSt m ρ K c 2 ∗ bigSep Finset.univ (sendLeft m ρ c) ∗ R) ⊢ Q ⟨k0_pay6 v43 v48, (Scalar.extui (Scalar.cmpi .sgt (me c) 2#32) : BitVec 32)⟩) :
    iprop(SendSt m ρ K c 13 ∗ levAts L lv ∗ bigSep Finset.univ (fun j : Fin 16 => atPos ER (recvCell c j) 0 ∅ 0)
        ∗ bigSep Finset.univ (recvCred (F := F) c) ∗ bigSep Finset.univ (barLeft (F := F) c) ∗ R)
      ⊢ run c (k0_part5 xM hx oM ho commM hc sendM hs sendS recvS cc0_scoped0 c (me c) v43 v48 b) Q := by
  rw [k0_part5_eq_skeleton]
  unfold k0_part5_skel
  refine send_step m ρ K c 13 ((by decide +kernel : ∀ d, k0_cond14 d = 1#1 ↔ d.val < 13) c) (k0_off27_eq c) (k0_off28_eq c) k0_dev30_eq hs ?_
  refine send_step m ρ K c 14 ((by decide +kernel : ∀ d, k0_cond15 d = 1#1 ↔ d.val < 14) c) (k0_off29_eq c) (k0_off30_eq c) k0_dev31_eq hs ?_
  refine send_step m ρ K c 15 ((by decide +kernel : ∀ d, k0_cond16 d = 1#1 ↔ d.val < 15) c) (k0_off31_eq c) (k0_off32_eq c) k0_dev32_eq hs ?_
  refine (show _ ⊢ iprop(RecvSt m ρ K c 0 ∗ (bigSep Finset.univ (sendLeft m ρ c) ∗ R)) from ?_).trans ?_
  · iintro ⟨HS, Hl, Ha, Hc, HB, HR⟩
    ihave HS := (send_finish m ρ K c (n := (15 : Fin 16).val + 1) rfl) $$ HS
    icases HS with ⟨HI, HO, HS⟩
    isplitr [HS HR]
    · iapply (recv_start m ρ K c)
      isplitl [HI]; · iexact HI
      isplitl [Hl]; · iexact Hl
      isplitl [HO]; · iexact HO
      isplitl [Ha]; · iexact Ha
      isplitl [Hc]; · iexact Hc
      iexact HB
    isplitl [HS]; · iexact HS
    iexact HR
  refine recv_step m ρ K c 0 (recv_bit 0 c) hs ?_
  refine recv_step m ρ K c 1 (recv_bit 1 c) hs ?_
  exact ret_step c h

theorem part6_run {Q : BitVec 32 → sProp 𝕄} (h : iprop(RecvSt m ρ K c 12 ∗ R) ⊢ Q (Scalar.extui (Scalar.cmpi .sgt (me c) 12#32) : BitVec 32)) :
    iprop(RecvSt m ρ K c 2 ∗ R) ⊢ run c (k0_part6 xM hx oM ho commM hc sendM hs sendS recvS cc0_scoped0 (me c) (Scalar.extui (Scalar.cmpi .sgt (me c) 2#32) : BitVec 32)) Q := by
  rw [k0_part6_eq_skeleton]
  unfold k0_part6_skel
  refine recv_step m ρ K c 2 (recv_bit 2 c) hs ?_
  refine recv_step m ρ K c 3 (recv_bit 3 c) hs ?_
  refine recv_step m ρ K c 4 (recv_bit 4 c) hs ?_
  refine recv_step m ρ K c 5 (recv_bit 5 c) hs ?_
  refine recv_step m ρ K c 6 (recv_bit 6 c) hs ?_
  refine recv_step m ρ K c 7 (recv_bit 7 c) hs ?_
  refine recv_step m ρ K c 8 (recv_bit 8 c) hs ?_
  refine recv_step m ρ K c 9 (recv_bit 9 c) hs ?_
  refine recv_step m ρ K c 10 (recv_bit 10 c) hs ?_
  refine recv_step m ρ K c 11 (recv_bit 11 c) hs ?_
  exact ret_step c h

end Cert.KernelIdeal.Scan
end
-- ==== Proof.IdealLoads.lean ====
/- Parts seven to ten of the scan kernel's body: the last waits, the loads of the slots, the result, and the closing
   signals. -/
module

public import proofs.«01_k».proof.Proof.IdealParts

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 34 → ℕ) (c : Dev nD)
variable (hx : (xM : Memref sig .tc .vmem S512x512 .f32).IsWhole) (ho : (oM : Memref sig .tc .vmem S512x512 .f32).IsWhole)
  (hc : (commM : Memref sig .tc .vmem S16x8x1024 .f32).IsWhole) (hs : (sendM : Memref sig .tc .vmem S8x1024 .f32).IsWhole)
variable {P R : sProp (MT nD τ sig Unit (Elt F) ℕ UU ℕ)}

theorem part7_run {Q : FVec F S1x1024 .f32 → sProp 𝕄}
    (h : iprop(LoadSt m ρ c ∗ (records m ρ K ∗ owing (F := F) c (sumFrom oweEnd 0)
        ∗ bigSep Finset.univ (fun j : Fin 16 => atPos ER (recvCell c j) (if j.val < c.val then 1 else 0) ∅ 0)) ∗ R)
      ⊢ Q (k0_pay7 (loaded m ρ c 0) (loaded m ρ c 1) (loaded m ρ c 2) (loaded m ρ c 3) (loaded m ρ c 4))) :
    iprop(RecvSt m ρ K c 12 ∗ R) ⊢ run c (k0_part7 xM hx oM ho commM hc sendM hs sendS recvS cc0_scoped0 (me c) (Scalar.extui (Scalar.cmpi .sgt (me c) 12#32) : BitVec 32)) Q := by
  rw [k0_part7_eq_skeleton]
  unfold k0_part7_skel
  refine recv_step m ρ K c 12 (recv_bit 12 c) hs ?_
  refine recv_step m ρ K c 13 (recv_bit 13 c) hs ?_
  refine recv_step m ρ K c 14 (recv_bit 14 c) hs ?_
  refine recv_step m ρ K c 15 (recv_bit 15 c) hs ?_
  refine (show _ ⊢ iprop(LoadSt m ρ c ∗ ((records m ρ K ∗ owing (F := F) c (sumFrom oweEnd 0)
        ∗ bigSep Finset.univ (fun j : Fin 16 => atPos ER (recvCell c j) (if j.val < c.val then 1 else 0) ∅ 0)) ∗ R)) from ?_).trans ?_
  · iintro ⟨HS, HR⟩
    ihave HS := (recv_finish m ρ K c (n := (15 : Fin 16).val + 1) rfl) $$ HS
    icases HS with ⟨HI, HO, Ha, HL⟩
    isplitl [HL]; · iexact HL
    isplitr [HR]
    · isplitl [HI]; · iexact HI
      isplitl [HO]; · iexact HO
      iexact Ha
    · iexact HR
  refine load_step m ρ c 0 ?_
  refine load_step m ρ c 1 ?_
  refine load_step m ρ c 2 ?_
  refine load_step m ρ c 3 ?_
  refine load_step m ρ c 4 ?_
  exact ret_step c h

theorem part8_run (v197 : FVec F S1x1024 .f32) {Q : (Σ' (_ : FVec F S1x1024 .f32), FVec F S1x1024 .f32) → sProp 𝕄}
    (h : iprop(LoadSt m ρ c ∗ R) ⊢ Q ⟨k0_pay8 v197 (loaded m ρ c 5) (loaded m ρ c 6) (loaded m ρ c 7) (loaded m ρ c 8) (loaded m ρ c 9) (loaded m ρ c 10) (loaded m ρ c 11) (loaded m ρ c 12), k0_pay9 (loaded m ρ c 13)⟩) :
    iprop(LoadSt m ρ c ∗ R) ⊢ run c (k0_part8 xM hx oM ho commM hc sendM hs sendS recvS cc0_scoped0 v197) Q := by
  rw [k0_part8_eq_skeleton]
  unfold k0_part8_skel
  refine load_step m ρ c 5 ?_
  refine load_step m ρ c 6 ?_
  refine load_step m ρ c 7 ?_
  refine load_step m ρ c 8 ?_
  refine load_step m ρ c 9 ?_
  refine load_step m ρ c 10 ?_
  refine load_step m ρ c 11 ?_
  refine load_step m ρ c 12 ?_
  refine load_step m ρ c 13 ?_
  exact ret_step c h

theorem part9_run (v128 : FVec F S512x512 .f32) (v229 v232 : FVec F S1x1024 .f32) (f : (cc0_stg1_0 : Ref sig .tc).ty.Contents (Elt F)) {Q : PUnit → sProp 𝕄}
    (h : iprop(EndSt m ρ K c 3 ∗ LoadSt m ρ c ∗ oPts c (k0_pay10 v128 v229 v232 (loaded m ρ c 14) (loaded m ρ c 15)) ∗ R) ⊢ Q ⟨⟩) :
    iprop(LoadSt m ρ c ∗ oPts c f ∗ records m ρ K ∗ owing (F := F) c (sumFrom oweEnd 0)
        ∗ bigSep Finset.univ (fun j : Fin 16 => dutyTok ER (endCell j) 0 c) ∗ R)
      ⊢ run c (k0_part9 xM hx oM ho commM hc sendM hs sendS recvS cc0_scoped0 v128 v229 v232) Q := by
  rw [k0_part9_eq_skeleton]
  unfold k0_part9_skel
  refine load_step m ρ c 14 ?_
  refine load_step m ρ c 15 ?_
  refine (show _ ⊢ iprop(oPts c f ∗ (LoadSt m ρ c ∗ records m ρ K ∗ owing (F := F) c (sumFrom oweEnd 0)
        ∗ bigSep Finset.univ (fun j : Fin 16 => dutyTok ER (endCell j) 0 c) ∗ R)) from ?_).trans ?_
  · iintro ⟨HL, Ho, HR⟩
    isplitl [Ho]; · iexact Ho
    isplitl [HL]; · iexact HL
    iexact HR
  refine o_load c _ ?_
  refine o_store c _ _ ?_
  refine (show _ ⊢ iprop(EndSt m ρ K c 0 ∗ (LoadSt m ρ c ∗ oPts c (k0_pay10 v128 v229 v232 (loaded m ρ c 14) (loaded m ρ c 15)) ∗ R)) from ?_).trans ?_
  · iintro ⟨Ho, HL, HI, HO, Ht, HR⟩
    isplitl [HI HO Ht]
    · iapply (end_start m ρ K c)
      isplitl [HI]; · iexact HI
      isplitl [HO]; · iexact HO
      iexact Ht
    isplitl [HL]; · iexact HL
    isplitl [Ho]; · iexact Ho
    iexact HR
  refine end_step m ρ K c 0 k0_dev33_eq ?_
  refine end_step m ρ K c 1 k0_dev34_eq ?_
  refine end_step m ρ K c 2 k0_dev35_eq ?_
  exact ret_step c h

theorem part10_run {Q : BitVec 32 → sProp 𝕄} (h : ∀ v, iprop(EndSt m ρ K c 11 ∗ R) ⊢ Q v) :
    iprop(EndSt m ρ K c 3 ∗ R) ⊢ run c (k0_part10 xM hx oM ho commM hc sendM hs sendS recvS cc0_scoped0) Q := by
  rw [k0_part10_eq_skeleton]
  unfold k0_part10_skel
  refine end_step m ρ K c 3 k0_dev36_eq ?_
  refine end_step m ρ K c 4 k0_dev37_eq ?_
  refine end_step m ρ K c 5 k0_dev38_eq ?_
  refine end_step m ρ K c 6 k0_dev39_eq ?_
  refine end_step m ρ K c 7 k0_dev40_eq ?_
  refine end_step m ρ K c 8 k0_dev41_eq ?_
  refine end_step m ρ K c 9 k0_dev42_eq ?_
  refine end_step m ρ K c 10 k0_dev43_eq ?_
  exact ret_step c (h _)

end Cert.KernelIdeal.Scan
end
-- ==== Proof.IdealDones.lean ====
/- Parts eleven and twelve of the scan kernel's body: the waits for the device's own transfers. -/
module

public import proofs.«01_k».proof.Proof.IdealParts

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 34 → ℕ) (c : Dev nD)
variable (hx : (xM : Memref sig .tc .vmem S512x512 .f32).IsWhole) (ho : (oM : Memref sig .tc .vmem S512x512 .f32).IsWhole)
  (hc : (commM : Memref sig .tc .vmem S16x8x1024 .f32).IsWhole) (hs : (sendM : Memref sig .tc .vmem S8x1024 .f32).IsWhole)
variable {P R : sProp (MT nD τ sig Unit (Elt F) ℕ UU ℕ)}

set_option maxHeartbeats 1600000 in
theorem part11_run (v2 v : BitVec 32) {Q : PUnit → sProp 𝕄} (h : iprop(DoneSt m ρ K c 4 ∗ R) ⊢ Q ⟨⟩) :
    iprop(EndSt m ρ K c 11 ∗ bigSep Finset.univ (fun j : Fin 16 => atPos ER (sendCell c j) 0 ∅ 0) ∗ bigSep Finset.univ (sendLeft m ρ c) ∗ R)
      ⊢ run c (k0_part11 xM hx oM ho commM hc sendM hs sendS recvS cc0_scoped0 c v2 v) Q := by
  rw [k0_part11_eq_skeleton]
  unfold k0_part11_skel
  refine end_step m ρ K c 11 k0_dev44_eq ?_
  refine end_step m ρ K c 12 k0_dev45_eq ?_
  refine end_step m ρ K c 13 k0_dev46_eq ?_
  refine end_step m ρ K c 14 k0_dev47_eq ?_
  refine end_step m ρ K c 15 k0_dev48_eq ?_
  refine (show _ ⊢ iprop(DoneSt m ρ K c 0 ∗ R) from ?_).trans ?_
  · iintro ⟨HE, Ha, Hs, HR⟩
    ihave HE := (end_finish m ρ K c (n := (15 : Fin 16).val + 1) rfl) $$ HE
    icases HE with ⟨HI, HO⟩
    isplitr [HR]
    · iapply (done_start m ρ K c)
      isplitl [HI]; · iexact HI
      isplitl [HO]; · iexact HO
      isplitl [Ha]; · iexact Ha
      iexact Hs
    · iexact HR
  refine done_step m ρ K c 0 ((by decide +kernel : ∀ d, k0_cond33 d = 1#1 ↔ d.val < 0) c) (k0_off33_eq c) hs ?_
  refine done_step m ρ K c 1 ((by decide +kernel : ∀ d, k0_cond34 d = 1#1 ↔ d.val < 1) c) (k0_off34_eq c) hs ?_
  refine done_step m ρ K c 2 ((by decide +kernel : ∀ d, k0_cond35 d = 1#1 ↔ d.val < 2) c) (k0_off35_eq c) hs ?_
  refine done_step m ρ K c 3 ((by decide +kernel : ∀ d, k0_cond36 d = 1#1 ↔ d.val < 3) c) (k0_off36_eq c) hs ?_
  exact ret_step c h

set_option maxHeartbeats 1600000 in
theorem part12_run (v2 : BitVec 32) {Q : PUnit → sProp 𝕄} (h : iprop(DoneSt m ρ K c 14 ∗ R) ⊢ Q ⟨⟩) :
    iprop(DoneSt m ρ K c 4 ∗ R) ⊢ run c (k0_part12 xM hx oM ho commM hc sendM hs sendS recvS cc0_scoped0 c v2) Q := by
  rw [k0_part12_eq_skeleton]
  unfold k0_part12_skel
  refine done_step m ρ K c 4 ((by decide +kernel : ∀ d, k0_cond37 d = 1#1 ↔ d.val < 4) c) (k0_off37_eq c) hs ?_
  refine done_step m ρ K c 5 ((by decide +kernel : ∀ d, k0_cond38 d = 1#1 ↔ d.val < 5) c) (k0_off38_eq c) hs ?_
  refine done_step m ρ K c 6 ((by decide +kernel : ∀ d, k0_cond39 d = 1#1 ↔ d.val < 6) c) (k0_off39_eq c) hs ?_
  refine done_step m ρ K c 7 ((by decide +kernel : ∀ d, k0_cond40 d = 1#1 ↔ d.val < 7) c) (k0_off40_eq c) hs ?_
  refine done_step m ρ K c 8 ((by decide +kernel : ∀ d, k0_cond41 d = 1#1 ↔ d.val < 8) c) (k0_off41_eq c) hs ?_
  refine done_step m ρ K c 9 ((by decide +kernel : ∀ d, k0_cond42 d = 1#1 ↔ d.val < 9) c) (k0_off42_eq c) hs ?_
  refine done_step m ρ K c 10 ((by decide +kernel : ∀ d, k0_cond43 d = 1#1 ↔ d.val < 10) c) (k0_off43_eq c) hs ?_
  refine done_step m ρ K c 11 ((by decide +kernel : ∀ d, k0_cond44 d = 1#1 ↔ d.val < 11) c) (k0_off44_eq c) hs ?_
  refine done_step m ρ K c 12 ((by decide +kernel : ∀ d, k0_cond45 d = 1#1 ↔ d.val < 12) c) (k0_off45_eq c) hs ?_
  refine done_step m ρ K c 13 ((by decide +kernel : ∀ d, k0_cond46 d = 1#1 ↔ d.val < 13) c) (k0_off46_eq c) hs ?_
  exact ret_step c h

end Cert.KernelIdeal.Scan
end
-- ==== Proof.IdealBody.lean ====
/- The whole body of the scan kernel on one device: its parts in a row, and at the end every cell closed. -/
module

public import proofs.«01_k».proof.Proof.IdealSends
public import proofs.«01_k».proof.Proof.IdealLoads
public import proofs.«01_k».proof.Proof.IdealDones

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 34 → ℕ) (c : Dev nD)

/-- The kernel's result on device `c`. -/
def outAt : (cc0_stg1_0 : Ref sig .tc).ty.Contents (Elt F) :=
  k0_pay10 (k0_pay6 (k0_pay3 (xstg m ρ c)) (k0_pay4 (xstg m ρ c)))
    (k0_pay8 (k0_pay7 (loaded m ρ c 0) (loaded m ρ c 1) (loaded m ρ c 2) (loaded m ρ c 3) (loaded m ρ c 4)) (loaded m ρ c 5) (loaded m ρ c 6) (loaded m ρ c 7) (loaded m ρ c 8) (loaded m ρ c 9) (loaded m ρ c 10) (loaded m ρ c 11) (loaded m ρ c 12))
    (k0_pay9 (loaded m ρ c 13)) (loaded m ρ c 14) (loaded m ρ c 15)

/-! ## All of a device's cells, family by family -/

/-- The numbering of the cells: the two counters, then the two families of sixteen. -/
def cellFamilies : Fin 2 ⊕ (Fin 16 ⊕ Fin 16) ≃ Fin 34 :=
  (Equiv.sumCongr (Equiv.refl (Fin 2)) finSumFinEquiv).trans finSumFinEquiv

theorem cells_split (Φ : Fin 34 → sProp 𝕄) : bigSep Finset.univ Φ
    = iprop((Φ 0 ∗ Φ 1) ∗ (bigSep Finset.univ fun j : Fin 16 => Φ (kSend j)) ∗ bigSep Finset.univ fun j : Fin 16 => Φ (kRecv j)) := by
  rw [bigSep_univ_equiv cellFamilies, bigSep_univ_sum, bigSep_univ_sum, bigSep_univ_two]
  have h : ∀ j : Fin 16, cellFamilies (.inr (.inr j)) = kRecv j := fun j => Fin.ext (by
    show 2 + (16 + j.val) = 18 + j.val; omega)
  rw [bigSep_congr (Φ := fun j : Fin 16 => Φ (cellFamilies (.inr (.inr j)))) fun j _ => congrArg Φ (h j)]
  rfl

/-! ## Closing the cells -/

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem close_send : iprop(records m ρ K ∗ bigSep Finset.univ fun j : Fin 16 => atPos ER (sendCell c j) (if c.val < j.val then 1 else 0) ∅ 0)
    ⊢ |={Set.univ}=> bigSep Finset.univ fun j : Fin 16 => semVal (sendCell c j) 0 := by
  refine (bigSep_with_persistent (R := records m ρ K) (Ψ := fun j : Fin 16 => iprop(|={Set.univ}=> semVal (sendCell c j) 0)) fun j _ => ?_).trans (bigSep_fupd _ _)
  refine (sep_mono_left (inv_send m ρ K c j)).trans ?_
  by_cases h : c.val < j.val
  · rw [if_pos h]
    exact Rounds.cell_close ER (rd m ρ) (Set.mem_univ _) (fun h => h) (duties_later m ρ _)
  · rw [if_neg h]
    exact Rounds.cell_close ER (rd m ρ) (Set.mem_univ _) (fun h => h) (duties_send_none m ρ c j h)

theorem close_recv : iprop(records m ρ K ∗ bigSep Finset.univ fun j : Fin 16 => atPos ER (recvCell c j) (if j.val < c.val then 1 else 0) ∅ 0)
    ⊢ |={Set.univ}=> bigSep Finset.univ fun j : Fin 16 => semVal (recvCell c j) 0 := by
  refine (bigSep_with_persistent (R := records m ρ K) (Ψ := fun j : Fin 16 => iprop(|={Set.univ}=> semVal (recvCell c j) 0)) fun j _ => ?_).trans (bigSep_fupd _ _)
  refine (sep_mono_left (inv_recv m ρ K c j)).trans ?_
  by_cases h : j.val < c.val
  · rw [if_pos h]
    exact Rounds.cell_close ER (rd m ρ) (Set.mem_univ _) (fun h => h) (duties_later m ρ _)
  · rw [if_neg h]
    exact Rounds.cell_close ER (rd m ρ) (Set.mem_univ _) (fun h => h) (duties_recv_none m ρ c j h)

theorem close_bar : iprop(records m ρ K ∗ atPos ER (barCell c) 1 ∅ 0) ⊢ |={Set.univ}=> semVal (barCell c) 0 :=
  (sep_mono_left (inv_at m ρ K (c, 0))).trans (Rounds.cell_close ER (rd m ρ) (Set.mem_univ _) (fun h => h) (duties_later m ρ _))
theorem close_end : iprop(records m ρ K ∗ atPos ER (endCell c) 1 ∅ 0) ⊢ |={Set.univ}=> semVal (endCell c) 0 :=
  (sep_mono_left (inv_at m ρ K (c, 1))).trans (Rounds.cell_close ER (rd m ρ) (Set.mem_univ _) (fun h => h) (duties_later m ρ _))

/-- Every counter of the device's cells at zero. -/
def zeroSems : sProp 𝕄 := bigSep Finset.univ fun k : Fin 34 => semVal (kcell (c, k)) 0

theorem zero_intro : iprop(semVal (barCell c) 0 ∗ semVal (endCell c) 0 ∗ (bigSep Finset.univ fun j : Fin 16 => semVal (sendCell c j) 0)
    ∗ bigSep Finset.univ fun j : Fin 16 => semVal (recvCell c j) 0) ⊢ zeroSems (F := F) c := by
  unfold zeroSems
  rw [cells_split, bigSep_congr (Φ := fun j : Fin 16 => semVal (kcell (c, kSend j)) 0) fun j _ => congrArg (fun g => (semVal g 0 : sProp 𝕄)) (kcell_send c j),
    bigSep_congr (Φ := fun j : Fin 16 => semVal (kcell (c, kRecv j)) 0) fun j _ => congrArg (fun g => (semVal g 0 : sProp 𝕄)) (kcell_recv c j), kcell_bar, kcell_end]
  iintro ⟨HB, HE, HS, HR⟩
  isplitl [HB HE]
  · isplitl [HB]; · iexact HB
    iexact HE
  isplitl [HS]; · iexact HS
  iexact HR

/-! ## What the device starts from and ends with -/

/-- The tokens of the duties the device pays. -/
def payToks : sProp 𝕄 :=
  iprop((bigSep Finset.univ fun j : Fin 16 => dutyTok ER (barCell j) 0 c) ∗ (bigSep Finset.univ fun j : Fin 16 => dutyTok ER (endCell j) 0 c)
    ∗ bigSep Finset.univ fun j : Fin 16 => iprop(dutyTok ER (sendCell c j) 0 c ∗ dutyTok ER (recvCell j c) 0 j))

/-- Its positions at the start of its cells, and those tokens. -/
def linear : sProp 𝕄 :=
  iprop((atPos ER (barCell c) 0 ∅ 0 ∗ atPos ER (endCell c) 0 ∅ 0 ∗ (bigSep Finset.univ fun j : Fin 16 => atPos ER (sendCell c j) 0 ∅ 0)
    ∗ bigSep Finset.univ fun j : Fin 16 => atPos ER (recvCell c j) 0 ∅ 0) ∗ payToks c)

/-- Its credit for what the others will do. -/
def credits : sProp 𝕄 :=
  iprop(cred (tallyAt (barCell c) () 16) ∗ cred (tallyAt (endCell c) () 16) ∗ bigSep Finset.univ (recvCred (F := F) c))

def start : sProp 𝕄 := iprop((∃ K, records m ρ K ∗ linear c) ∗ credits c ∗ levAts L lv)

def Φ₀ : sProp 𝕄 := iprop(start m ρ c ∗ (∃ f, commPts c f) ∗ ∃ f, sendPts c f)
def Φ₁ : sProp 𝕄 := iprop(zeroSems c ∗ (∃ f, commPts c f) ∗ ∃ f, sendPts c f)

theorem ret_fupd {α : Type} {P : sProp 𝕄} {Q : α → sProp 𝕄} {a : α} (h : P ⊢ |={Set.univ}=> Q a) : P ⊢ run c (pure a) Q := by
  rw [Prog.pure_eq_ret]
  unfold run
  rw [wp_ret]
  exact h

set_option maxHeartbeats 1600000 in
theorem body_run_at {Q : PUnit → sProp 𝕄} (f : (cc0_scratch0 : Ref sig .tc).ty.Contents (Elt F)) (g : (cc0_scratch1 : Ref sig .tc).ty.Contents (Elt F))
    (o : (cc0_stg1_0 : Ref sig .tc).ty.Contents (Elt F))
    (h : iprop(Φ₁ c ∗ owing (F := F) c 0 ∗ xPts c (xstg m ρ c) ∗ oPts c (outAt m ρ c)) ⊢ Q ⟨⟩) :
    iprop(commPts c f ∗ records m ρ K ∗ owing (F := F) c (O₀ c) ∗ (bigSep Finset.univ fun j : Fin 16 => dutyTok ER (barCell j) 0 c)
        ∗ (xPts c (xstg m ρ c) ∗ sendPts c g ∗ levAts L lv ∗ cred (tallyAt (barCell c) () 16) ∗ atPos ER (barCell c) 0 ∅ 0 ∗ (bigSep Finset.univ fun j : Fin 16 => iprop(dutyTok ER (sendCell c j) 0 c ∗ dutyTok ER (recvCell j c) 0 j))
          ∗ (levAts L lv ∗ (bigSep Finset.univ fun j : Fin 16 => atPos ER (recvCell c j) 0 ∅ 0) ∗ bigSep Finset.univ (recvCred (F := F) c) ∗ oPts c o ∗ (bigSep Finset.univ fun j : Fin 16 => dutyTok ER (endCell j) 0 c) ∗ (bigSep Finset.univ fun j : Fin 16 => atPos ER (sendCell c j) 0 ∅ 0) ∗ cred (tallyAt (endCell c) () 16) ∗ atPos ER (endCell c) 0 ∅ 0)))
      ⊢ run c (cc0_body (F := F) xM (Memref.isWhole_whole _) oM (Memref.isWhole_whole _) commM (Memref.isWhole_whole _) sendM (Memref.isWhole_whole _)
          sendS recvS cc0_scoped0) Q := by
  rw [cc0_body_eq_skeleton]
  unfold cc0_body_skel
  refine run_bind c (part1_run m ρ K c (Memref.isWhole_whole _) (Memref.isWhole_whole _) (Memref.isWhole_whole _) (Memref.isWhole_whole _) f ?_)
  refine run_bind c (part2_run m ρ K c (Memref.isWhole_whole _) (Memref.isWhole_whole _) (Memref.isWhole_whole _) (Memref.isWhole_whole _) _ rfl _ ?_)
  refine run_bind c (part3_run m ρ K c (Memref.isWhole_whole _) (Memref.isWhole_whole _) (Memref.isWhole_whole _) (Memref.isWhole_whole _) _ g fun b3 => ?_)
  refine run_bind c (part4_run m ρ K c (Memref.isWhole_whole _) (Memref.isWhole_whole _) (Memref.isWhole_whole _) (Memref.isWhole_whole _) _ _ fun b4 => ?_)
  refine (show _ ⊢ iprop(SendSt m ρ K c 13 ∗ levAts L lv ∗ (bigSep Finset.univ fun j : Fin 16 => atPos ER (recvCell c j) 0 ∅ 0) ∗ bigSep Finset.univ (recvCred (F := F) c) ∗ bigSep Finset.univ (barLeft (F := F) c) ∗ (xPts c (xstg m ρ c) ∗ atPos ER (barCell c) 1 ∅ 0 ∗ oPts c o ∗ (bigSep Finset.univ fun j : Fin 16 => dutyTok ER (endCell j) 0 c) ∗ (bigSep Finset.univ fun j : Fin 16 => atPos ER (sendCell c j) 0 ∅ 0) ∗ cred (tallyAt (endCell c) () 16) ∗ atPos ER (endCell c) 0 ∅ 0)) from ?_).trans ?_
  · iintro ⟨HS, Hx, HaB, HB, Hl, HaR, HcR, Ho, HtE, HaS, HcE, HaE⟩
    isplitl [HS]; · iexact HS
    isplitl [Hl]; · iexact Hl
    isplitl [HaR]; · iexact HaR
    isplitl [HcR]; · iexact HcR
    isplitl [HB]; · iexact HB
    isplitl [Hx]; · iexact Hx
    isplitl [HaB]; · iexact HaB
    isplitl [Ho]; · iexact Ho
    isplitl [HtE]; · iexact HtE
    isplitl [HaS]; · iexact HaS
    isplitl [HcE]; · iexact HcE
    iexact HaE
  refine run_bind c (part5_run m ρ K c (Memref.isWhole_whole _) (Memref.isWhole_whole _) (Memref.isWhole_whole _) (Memref.isWhole_whole _) _ _ _ ?_)
  refine run_bind c (part6_run m ρ K c (Memref.isWhole_whole _) (Memref.isWhole_whole _) (Memref.isWhole_whole _) (Memref.isWhole_whole _) ?_)
  refine run_bind c (part7_run m ρ K c (Memref.isWhole_whole _) (Memref.isWhole_whole _) (Memref.isWhole_whole _) (Memref.isWhole_whole _) ?_)
  refine run_bind c (part8_run m ρ c (Memref.isWhole_whole _) (Memref.isWhole_whole _) (Memref.isWhole_whole _) (Memref.isWhole_whole _) _ ?_)
  refine (show _ ⊢ iprop(LoadSt m ρ c ∗ oPts c o ∗ records m ρ K ∗ owing (F := F) c (sumFrom oweEnd 0) ∗ (bigSep Finset.univ fun j : Fin 16 => dutyTok ER (endCell j) 0 c) ∗ (bigSep Finset.univ (sendLeft m ρ c) ∗ (bigSep Finset.univ fun j : Fin 16 => atPos ER (recvCell c j) (if j.val < c.val then 1 else 0) ∅ 0) ∗ xPts c (xstg m ρ c) ∗ atPos ER (barCell c) 1 ∅ 0 ∗ (bigSep Finset.univ fun j : Fin 16 => atPos ER (sendCell c j) 0 ∅ 0) ∗ cred (tallyAt (endCell c) () 16) ∗ atPos ER (endCell c) 0 ∅ 0)) from ?_).trans ?_
  · iintro ⟨HL, ⟨HI, HO, HaR⟩, HS, Hx, HaB, Ho, HtE, HaS, HcE, HaE⟩
    isplitl [HL]; · iexact HL
    isplitl [Ho]; · iexact Ho
    isplitl [HI]; · iexact HI
    isplitl [HO]; · iexact HO
    isplitl [HtE]; · iexact HtE
    isplitl [HS]; · iexact HS
    isplitl [HaR]; · iexact HaR
    isplitl [Hx]; · iexact Hx
    isplitl [HaB]; · iexact HaB
    isplitl [HaS]; · iexact HaS
    isplitl [HcE]; · iexact HcE
    iexact HaE
  refine run_bind c (part9_run m ρ K c (Memref.isWhole_whole _) (Memref.isWhole_whole _) (Memref.isWhole_whole _) (Memref.isWhole_whole _) _ _ _ o ?_)
  refine run_bind c (part10_run m ρ K c (Memref.isWhole_whole _) (Memref.isWhole_whole _) (Memref.isWhole_whole _) (Memref.isWhole_whole _) fun b10 => ?_)
  refine (show _ ⊢ iprop(EndSt m ρ K c 11 ∗ (bigSep Finset.univ fun j : Fin 16 => atPos ER (sendCell c j) 0 ∅ 0) ∗ bigSep Finset.univ (sendLeft m ρ c) ∗ (LoadSt m ρ c ∗ oPts c (outAt m ρ c) ∗ (bigSep Finset.univ fun j : Fin 16 => atPos ER (recvCell c j) (if j.val < c.val then 1 else 0) ∅ 0) ∗ xPts c (xstg m ρ c) ∗ atPos ER (barCell c) 1 ∅ 0 ∗ cred (tallyAt (endCell c) () 16) ∗ atPos ER (endCell c) 0 ∅ 0)) from ?_).trans ?_
  · iintro ⟨HE, HL, Ho, HS, HaR, Hx, HaB, HaS, HcE, HaE⟩
    isplitl [HE]; · iexact HE
    isplitl [HaS]; · iexact HaS
    isplitl [HS]; · iexact HS
    isplitl [HL]; · iexact HL
    isplitl [Ho]; · iexact Ho
    isplitl [HaR]; · iexact HaR
    isplitl [Hx]; · iexact Hx
    isplitl [HaB]; · iexact HaB
    isplitl [HcE]; · iexact HcE
    iexact HaE
  refine run_bind c (part11_run m ρ K c (Memref.isWhole_whole _) (Memref.isWhole_whole _) (Memref.isWhole_whole _) (Memref.isWhole_whole _) _ _ ?_)
  refine run_bind c (part12_run m ρ K c (Memref.isWhole_whole _) (Memref.isWhole_whole _) (Memref.isWhole_whole _) (Memref.isWhole_whole _) _ ?_)
  refine done_step m ρ K c 14 ((by decide +kernel : ∀ d, k0_cond47 d = 1#1 ↔ d.val < 14) c) (k0_off47_eq c) (Memref.isWhole_whole _) ?_
  refine done_step m ρ K c 15 ((by decide +kernel : ∀ d, k0_cond48 d = 1#1 ↔ d.val < 15) c) (k0_off48_eq c) (Memref.isWhole_whole _) ?_
  refine (show _ ⊢ iprop((records m ρ K ∗ cred (tallyAt (endCell c) () 16) ∗ atPos ER (endCell c) 0 ∅ 0 ∗ owing (F := F) c 0) ∗ (records m ρ K ∗ LoadSt m ρ c ∗ oPts c (outAt m ρ c) ∗ (bigSep Finset.univ fun j : Fin 16 => atPos ER (recvCell c j) (if j.val < c.val then 1 else 0) ∅ 0) ∗ xPts c (xstg m ρ c) ∗ atPos ER (barCell c) 1 ∅ 0 ∗ (bigSep Finset.univ fun j : Fin 16 => atPos ER (sendCell c j) (if c.val < j.val then 1 else 0) ∅ 0) ∗ sendPts c (tot m ρ c))) from ?_).trans ?_
  · iintro ⟨HD, HL, Ho, HaR, Hx, HaB, HcE, HaE⟩
    ihave HD := (done_finish m ρ K c (n := (15 : Fin 16).val + 1) rfl) $$ HD
    icases HD with ⟨#HI, HO, HaS, Hs⟩
    isplitl [HcE HaE HO]
    · isplitr; · iexact HI
      isplitl [HcE]; · iexact HcE
      isplitl [HaE]; · iexact HaE
      iexact HO
    isplitr; · iexact HI
    isplitl [HL]; · iexact HL
    isplitl [Ho]; · iexact Ho
    isplitl [HaR]; · iexact HaR
    isplitl [Hx]; · iexact Hx
    isplitl [HaB]; · iexact HaB
    isplitl [HaS]; · iexact HaS
    iexact Hs
  refine end_wait m ρ K c ?_
  refine ret_fupd c ?_
  iintro ⟨HO, HaE, #HI, HL, Ho, HaR, Hx, HaB, HaS, Hs⟩
  imod (close_bar m ρ K c) $$ [HaB] with HzB
  · isplitr; · iexact HI
    iexact HaB
  imod (close_end m ρ K c) $$ [HaE] with HzE
  · isplitr; · iexact HI
    iexact HaE
  imod (close_send m ρ K c) $$ [HaS] with HzS
  · isplitr; · iexact HI
    iexact HaS
  imod (close_recv m ρ K c) $$ [HaR] with HzR
  · isplitr; · iexact HI
    iexact HaR
  imodintro
  iapply h
  unfold Φ₁
  isplitl [HzB HzE HzS HzR HL Hs]
  · isplitl [HzB HzE HzS HzR]
    · iapply (zero_intro c)
      isplitl [HzB]; · iexact HzB
      isplitl [HzE]; · iexact HzE
      isplitl [HzS]; · iexact HzS
      iexact HzR
    isplitl [HL]
    · unfold LoadSt; iapply (comm_join c (slotVal m ρ c)); iexact HL
    iexists _; iexact Hs
  isplitl [HO]; · iexact HO
  isplitl [Hx]; · iexact Hx
  iexact Ho

theorem body_run {Q : PUnit → sProp 𝕄} (o : (cc0_stg1_0 : Ref sig .tc).ty.Contents (Elt F))
    (h : iprop(Φ₁ c ∗ owing (F := F) c 0 ∗ xPts c (xstg m ρ c) ∗ oPts c (outAt m ρ c)) ⊢ Q ⟨⟩) :
    iprop(Φ₀ m ρ c ∗ owing (F := F) c (O₀ c) ∗ xPts c (xstg m ρ c) ∗ oPts c o)
      ⊢ run c (cc0_body (F := F) xM (Memref.isWhole_whole _) oM (Memref.isWhole_whole _) commM (Memref.isWhole_whole _) sendM (Memref.isWhole_whole _)
          sendS recvS cc0_scoped0) Q := by
  unfold Φ₀ start linear payToks credits
  iintro ⟨⟨⟨⟨%K, HI, ⟨HaB, HaE, HaS, HaR⟩, HtB, HtE, HtS⟩, ⟨HcB, HcE, HcR⟩, #Hl⟩, ⟨%f, Hc⟩, ⟨%g, Hs⟩⟩, HO, Hx, Ho⟩
  iapply (body_run_at m ρ K c f g o h)
  isplitl [Hc]; · iexact Hc
  isplitl [HI]; · iexact HI
  isplitl [HO]; · iexact HO
  isplitl [HtB]; · iexact HtB
  isplitl [Hx]; · iexact Hx
  isplitl [Hs]; · iexact Hs
  isplitr; · iexact Hl
  isplitl [HcB]; · iexact HcB
  isplitl [HaB]; · iexact HaB
  isplitl [HtS]; · iexact HtS
  isplitr; · iexact Hl
  isplitl [HaR]; · iexact HaR
  isplitl [HcR]; · iexact HcR
  isplitl [Ho]; · iexact Ho
  isplitl [HtE]; · iexact HtE
  isplitl [HaS]; · iexact HaS
  isplitl [HcE]; · iexact HcE
  iexact HaE

end Cert.KernelIdeal.Scan
end
-- ==== Proof.IdealLaunch.lean ====
/- The launch of the scan kernel: its cells and tokens dealt to sixteen devices, and its run. -/
module

public import proofs.«01_k».proof.Proof.IdealBody
public import proofs.«01_k».proof.Proof.Gen.KernelIdeal.Points
public import Idealize.ShloMosaic.Lib.Pipeline.CollectiveSegs
public import Idealize.ShloMosaic.Lib.Quiescent

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The region's proof data -/

/-- A staging buffer holding exactly `X`. -/
def held (c : Dev nD) (b : Ref sig .tc) (X : b.ty.Contents (Elt F)) : sProp 𝕄 :=
  iprop(∃ f : Buf (Elt F) ((c : Thread nD τ).loc b), ⌜f = X⌝ ∗ (c : Thread nD τ).loc b ↦{fullShare} f)

theorem owns_whole_held (c : Dev nD) (b : Ref sig .tc) (X : b.ty.Contents (Elt F)) :
    (owns (c : Thread nD τ) (Memref.whole b) fullShare X : sProp 𝕄) = held c b X := by
  unfold owns held
  simp only [Memref.view_whole, View.read_whole, View.set_whole]

/-- Before its one point a device holds what it starts from, after it what it ends with; it owes everything before and
    nothing after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

def bodyPre (c : Dev nD) : sProp 𝕄 :=
  iprop(Φ₀ m ρ c ∗ (dats m ρ 0 c).owesAt () t0_0.castSucc
    ∗ (∃ d, held c cc0_stg0_0 ((dats m ρ 0 c).before (0 : Fin 2) t0_0 d))
    ∗ (∃ d, held c cc0_stg1_0 ((dats m ρ 0 c).before (1 : Fin 2) t0_0 d)))

def bodyPost (c : Dev nD) : sProp 𝕄 :=
  iprop(Φ₁ c ∗ (dats m ρ 0 c).owesAt () t0_0.succ ∗ held c cc0_stg0_0 (xstg m ρ c) ∗ held c cc0_stg1_0 (outAt m ρ c))

theorem post_intro (c : Dev nD) :
    iprop(Φ₁ c ∗ owing (F := F) c 0 ∗ xPts c (xstg m ρ c) ∗ oPts c (outAt m ρ c)) ⊢ bodyPost m ρ c := by
  unfold bodyPost Dat.owesAt Pipeline.owesWithin owing held xPts oPts
  rw [show (dats m ρ 0 c).owed t0_0.succ = 0 from rfl]
  iintro ⟨HF, ⟨%W, HO⟩, Hx, Ho⟩
  isplitl [HF]; · iexact HF
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

theorem pre_run (c : Dev nD) : bodyPre m ρ c
    ⊢ run c (cc0_body (F := F) xM (Memref.isWhole_whole _) oM (Memref.isWhole_whole _) commM (Memref.isWhole_whole _) sendM (Memref.isWhole_whole _)
        sendS recvS cc0_scoped0) (fun _ => bodyPost m ρ c) := by
  unfold bodyPre held Dat.owesAt Pipeline.owesWithin
  rw [show (dats m ρ 0 c).owed t0_0.castSucc = O₀ c from rfl]
  iintro ⟨HF, ⟨%W, %hW, HO⟩, ⟨%d0, %g0, %hg0, Hx⟩, ⟨%d1, %g1, %hg1, Ho⟩⟩
  have hx : g0 = xstg m ρ c := by rw [hg0]; unfold Dat.before; rw [if_pos (fetch0_0 t0_0)]; rfl
  subst hx
  iapply (body_run m ρ c g1 (post_intro m ρ c))
  isplitl [HF]; · iexact HF
  isplitl [HO]
  · unfold owing; iexists W; iexact HO
  unfold xPts oPts
  isplitl [Hx]; · iexact Hx
  iexact Ho

set_option maxRecDepth 4000 in
theorem body_obligation (c : Dev nD) : BodyObligation (dats (F := F) m ρ 0 c) (defs₀ (F := F)) 𝒱₀ () Set.univ := fun t => by
  rw [fin_N0 t, bigSep_W0, bigSep_W0]
  simp only [owns_whole_held]
  exact pre_run m ρ c

/-! ## The cells and the tokens dealt at launch -/

theorem csem_injective : Function.Injective csem := by decide +kernel

theorem kcell_injective : Function.Injective kcell := by
  rintro ⟨c, k⟩ ⟨c', k'⟩ h
  have hc : c = c' := congrArg (fun g : GSem nD τ sig => g.1.1) h
  have hk : k = k' := csem_injective (congrArg Prod.snd h)
  rw [hc, hk]

def cells : Finset (GSem nD τ sig) := Finset.univ.map ⟨kcell, kcell_injective⟩

/-- A duty's token as numbers: whose cell, which cell, which duty. First the device that will pay it, then which of its
    four kinds, then the peer. -/
def tokKey (x : Dev nD × Fin 4 × Fin 16) : (Dev nD × Fin 34) × Dev nD := match x.2.1 with
  | 0 => ((x.2.2, 0), x.1)
  | 1 => ((x.2.2, 1), x.1)
  | 2 => ((x.1, kSend x.2.2), x.1)
  | 3 => ((x.2.2, kRecv x.1), x.2.2)

/-- Who pays it, read back. -/
def tokBack (y : (Dev nD × Fin 34) × Dev nD) : Dev nD × Fin 4 × Fin 16 :=
  if y.1.2.val = 0 then (y.2, 0, y.1.1) else if y.1.2.val = 1 then (y.2, 1, y.1.1)
  else if y.1.2.val < 18 then (y.1.1, 2, nth (y.1.2.val - 2)) else (nth (y.1.2.val - 18), 3, y.1.1)

theorem tokBack_key : ∀ x, tokBack (tokKey x) = x := by decide +kernel

def tokOf (x : Dev nD × Fin 4 × Fin 16) : GSem nD τ sig × ℕ × Dev nD := (kcell (tokKey x).1, 0, (tokKey x).2)
theorem tokOf_injective : Function.Injective tokOf := fun x y h => by
  have h1 : (tokKey x).1 = (tokKey y).1 := kcell_injective (congrArg Prod.fst h)
  have h2 : (tokKey x).2 = (tokKey y).2 := congrArg (fun z : GSem nD τ sig × ℕ × Dev nD => z.2.2) h
  rw [← tokBack_key x, ← tokBack_key y, Prod.ext h1 h2]

def toks : Finset (GSem nD τ sig × ℕ × Dev nD) := Finset.univ.map ⟨tokOf, tokOf_injective⟩

def u₀ : UU := (initOf (Pipeline.cells cfgs cellOf_inj) (Pipeline.launchToks cfgs cellOf_inj), initOf cells toks)

theorem four_split (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The tokens minted are, device by device, those it pays with. -/
theorem toks_eq : bigSep toks (fun x => (dutyTok ER x.1 x.2.1 x.2.2 : sProp 𝕄)) = bigSep Finset.univ fun c : Dev nD => payToks (F := F) c := by
  unfold toks
  rw [bigSep_map, bigSep_univ_prod]
  refine bigSep_congr fun c _ => ?_
  rw [bigSep_univ_prod, four_split]
  unfold payToks
  rw [bigSep_sep']
  refine congrArg₂ (fun a b => iprop(a ∗ b)) rfl (congrArg₂ (fun a b => iprop(a ∗ b)) rfl (congrArg₂ (fun a b => iprop(a ∗ b)) ?_ ?_))
  · exact bigSep_congr fun j _ => congrArg (fun g => (dutyTok ER g 0 c : sProp 𝕄)) (kcell_send c j)
  · exact bigSep_congr fun j _ => congrArg (fun g => (dutyTok ER g 0 j : sProp 𝕄)) (kcell_recv j c)

theorem cells_eq (Φ : GSem nD τ sig → sProp 𝕄) :
    bigSep cells Φ = bigSep Finset.univ fun c : Dev nD => bigSep Finset.univ fun k : Fin 34 => Φ (kcell (c, k)) := by
  unfold cells; rw [bigSep_map, bigSep_univ_prod]; rfl

/-- A device's positions in its cells, and that each has reached its first round. -/
def places (c : Dev nD) : sProp 𝕄 :=
  iprop((bigSep Finset.univ fun k : Fin 34 => atPos ER (kcell (c, k)) 0 ∅ 0) ∗ bigSep Finset.univ fun k : Fin 34 => reached ER (kcell (c, k)) 0)

/-- What a device is dealt before its cells are allocated, -/
def G (c : Dev nD) : sProp 𝕄 :=
  iprop((bigSep Finset.univ fun k : Fin 34 => roundState ER (rd m ρ) (kcell (c, k)) 0) ∗ places c ∗ payToks c)
/-- and after. -/
def G' (c : Dev nD) : sProp 𝕄 := iprop(∃ K, records m ρ K ∗ linear c)

theorem fund_cells : BI.own (ER (initOf cells toks)) ⊢ (|==> bigSep Finset.univ (G m ρ) : sProp 𝕄) := by
  iintro HX
  imod (Rounds.fund ER (rd m ρ) cells toks) $$ HX with ⟨Hst, Hr, Hat, Htok⟩
  imodintro
  ihave Hst' := (Entails.of_eq (cells_eq fun g => roundState ER (rd m ρ) g 0)) $$ Hst
  ihave Hat' := (Entails.of_eq (cells_eq fun g => atPos ER g 0 ∅ 0)) $$ Hat
  ihave Hr' := (Entails.of_eq (cells_eq fun g => reached ER g 0)) $$ Hr
  ihave Htok' := (Entails.of_eq toks_eq) $$ Htok
  unfold G places
  simp only [bigSep_sep']
  isplitl [Hst']; · iexact Hst'
  isplitl [Hat' Hr']
  · isplitl [Hat'] <;> iassumption
  iexact Htok'

/-! ## The semaphores -/

/-- The kernel's own semaphores: the closing one and the thirty-two of the transfers. -/
abbrev osem : Fin 33 → SemLoc sig := fun k => csem k.succ

theorem ownSemFacts : Pipeline.OwnSemFacts cfg0.spec osem := by decide +kernel

theorem unscoped_eq (c : Dev nD) : (unscopedSems0 c : sProp 𝕄) = semVal (barCell c) 0 := by
  unfold unscopedSems0; rw [bigSep_eq_bigSepL_of_eq [SemLoc.reg barS] (by decide) (by decide)]; rfl

theorem zero_split (c : Dev nD) : (zeroSems c : sProp 𝕄) = iprop(unscopedSems0 c
    ∗ Pipeline.ownSems0 (Ix := Unit) (Name := ℕ) (U := UU) (Lvl := ℕ) (Val := Elt F) (τ := τ) osem c) := by
  unfold zeroSems
  rw [Fin.univ_succ, Finset.cons_eq_insert, BI.bigSep_insert (by simp), BI.bigSep_map, unscoped_eq]; rfl

/-- A device's cells allocated. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k)))) ∗ places c ∗ payToks c) := by
  unfold G
  iintro ⟨Hos, Hus, Hst, Hat, Htok⟩
  ihave Hv := (Entails.of_eq (zero_split (F := F) c).symm) $$ [Hos Hus]
  · isplitl [Hus] <;> iassumption
  have hall : iprop(zeroSems c ∗ bigSep Finset.univ fun k : Fin 34 => roundState ER (rd m ρ) (kcell (c, k)) 0)
      ⊢ (|={Set.univ}=> bigSep Finset.univ fun k => iprop(∃ κ : ℕ, cellInv ER (rd m ρ) κ (kcell (c, k))) : sProp 𝕄) := by
    unfold zeroSems
    rw [← bigSep_sep']
    exact (bigSep_mono fun k _ => (Rounds.body_intro ER (rd m ρ) (kcell (c, k))).trans inv_alloc).trans (bigSep_fupd _ _)
  imod hall $$ [Hv Hst] with Hinv
  · isplitl [Hv] <;> iassumption
  imodintro
  isplitl [Hinv]; · iexact Hinv
  isplitl [Hat] <;> iassumption

theorem linear_intro (c : Dev nD) : iprop((bigSep Finset.univ fun k : Fin 34 => atPos ER (kcell (c, k)) 0 ∅ 0) ∗ payToks c) ⊢ linear (F := F) c := by
  unfold linear
  rw [cells_split, bigSep_congr (Φ := fun j : Fin 16 => atPos ER (kcell (c, kSend j)) 0 ∅ 0) fun j _ => congrArg (fun g => (atPos ER g 0 ∅ 0 : sProp 𝕄)) (kcell_send c j),
    bigSep_congr (Φ := fun j : Fin 16 => atPos ER (kcell (c, kRecv j)) 0 ∅ 0) fun j _ => congrArg (fun g => (atPos ER g 0 ∅ 0 : sProp 𝕄)) (kcell_recv c j), kcell_bar, kcell_end]
  iintro ⟨⟨⟨HB, HE⟩, HS, HR⟩, HT⟩
  isplitl [HB HE HS HR]
  · isplitl [HB]; · iexact HB
    isplitl [HE]; · iexact HE
    isplitl [HS] <;> iassumption
  iexact HT

theorem regroup :
    (bigSep Finset.univ fun c : Dev nD => iprop((bigSep Finset.univ fun k => iprop(∃ κ : ℕ, cellInv ER (rd m ρ) κ (kcell (c, k)))) ∗ places c ∗ payToks c) : sProp 𝕄)
      ⊢ bigSep Finset.univ (G' m ρ) := by
  unfold places
  simp only [bigSep_sep']
  rw [← bigSep_univ_prod (fun ck : Dev nD × Fin 34 => iprop(∃ κ : ℕ, cellInv ER (rd m ρ) κ (kcell ck))),
    ← bigSep_univ_prod (fun ck : Dev nD × Fin 34 => (reached ER (kcell ck) 0 : sProp 𝕄))]
  iintro ⟨HI, ⟨Hat, #HR⟩, Htok⟩
  ihave HK := (BI.bigSep_exists_pi Finset.univ (fun (ck : Dev nD × Fin 34) (κ : ℕ) => (cellInv ER (rd m ρ) κ (kcell ck) : sProp 𝕄))) $$ HI
  icases HK with ⟨%K, #HI⟩
  have hgive : ∀ c : Dev nD, iprop(records m ρ K ∗ linear c) ⊢ G' m ρ c := fun c => by unfold G'; iintro H; iexists K; iexact H
  iapply (bigSep_with_persistent (R := records m ρ K) fun c _ => hgive c)
  isplitr
  · unfold records; isplitl; · iexact HI
    iexact HR
  · iapply ((Entails.of_eq (bigSep_sep' Finset.univ (fun c : Dev nD => bigSep Finset.univ fun k : Fin 34 => (atPos ER (kcell (c, k)) 0 ∅ 0 : sProp 𝕄)) payToks).symm).trans
      (bigSep_mono fun c _ => linear_intro c))
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit -/

omit [FloatOps F] in
theorem bar_inj {a b : Dev nD} (h : barCell a = barCell b) : a = b := congrArg (fun g : GSem nD τ sig => g.1.1) h
omit [FloatOps F] in
theorem end_inj {a b : Dev nD} (h : endCell a = endCell b) : a = b := congrArg (fun g : GSem nD τ sig => g.1.1) h
omit [FloatOps F] in
theorem recv_inj {a b : Dev nD} {i j : Fin 16} (h : recvCell a i = recvCell b j) : a = b ∧ i = j := by
  have h' := kcell_injective (((kcell_recv a i).trans h).trans (kcell_recv b j).symm)
  refine ⟨congrArg Prod.fst h', ?_⟩
  have := congrArg (fun x : Dev nD × Fin 34 => x.2.val) h'
  exact Fin.ext (by have h18 : 18 + i.val = 18 + j.val := this; omega)
omit [FloatOps F] in
theorem bar_ne_end (a b : Dev nD) : barCell a ≠ endCell b := fun h => barS_ne_endS (SemLoc.reg.inj (congrArg Prod.snd h))
omit [FloatOps F] in
theorem bar_ne_recv (a b : Dev nD) (j : Fin 16) : barCell a ≠ recvCell b j := fun h => nomatch (congrArg Prod.snd h)
omit [FloatOps F] in
theorem end_ne_recv (a b : Dev nD) (j : Fin 16) : endCell a ≠ recvCell b j := fun h => nomatch (congrArg Prod.snd h)

theorem noEnd {g : GSem nD τ sig} (h : ∀ j : Dev nD, g ≠ endCell j) : sumFrom oweEnd 0 g () = 0 := by
  by_contra hn; obtain ⟨j, hj⟩ := pos_end (Nat.pos_of_ne_zero hn); exact h j hj
theorem noBar {g : GSem nD τ sig} (h : ∀ j : Dev nD, g ≠ barCell j) : sumFrom oweBar 0 g () = 0 := by
  by_contra hn; obtain ⟨j, hj⟩ := pos_bar (Nat.pos_of_ne_zero hn); exact h j hj
theorem noRecv {d : Dev nD} {g : GSem nD τ sig} (h : ∀ j : Dev nD, g ≠ recvCell j d) : sumFrom (oweRecv d) 0 g () = 0 := by
  by_contra hn; obtain ⟨j, hj⟩ := pos_recv (Nat.pos_of_ne_zero hn); exact h j hj

theorem O₀_apply (d : Dev nD) (g : GSem nD τ sig) :
    O₀ d g () = sumFrom oweEnd 0 g () + sumFrom (oweRecv d) 0 g () + sumFrom oweBar 0 g () := by
  unfold O₀; rw [Pi.add_apply, Finsupp.add_apply, Pi.add_apply, Finsupp.add_apply]

theorem owed_bar (d c : Dev nD) : O₀ d (barCell c) () = 1 := by
  rw [O₀_apply, noEnd (bar_ne_end c), noRecv fun j => bar_ne_recv c j d, sumFrom_zero, tally_sum_apply,
    Finset.sum_eq_single c (fun j _ hj => ?_) (fun h => absurd (Finset.mem_univ _) h)]
  · unfold oweBar; rw [tallyAt_apply, if_pos ⟨rfl, rfl⟩]
  · unfold oweBar; rw [tallyAt_apply, if_neg fun h => hj (bar_inj h.1).symm]

theorem owed_end (d c : Dev nD) : O₀ d (endCell c) () = 1 := by
  rw [O₀_apply, noBar fun j h => bar_ne_end j c h.symm, noRecv fun j => end_ne_recv c j d, sumFrom_zero, tally_sum_apply,
    Finset.sum_eq_single c (fun j _ hj => ?_) (fun h => absurd (Finset.mem_univ _) h)]
  · unfold oweEnd; rw [tallyAt_apply, if_pos ⟨rfl, rfl⟩]
  · unfold oweEnd; rw [tallyAt_apply, if_neg fun h => hj (end_inj h.1).symm]

theorem owed_recv (d c : Dev nD) (i : Fin 16) : O₀ d (recvCell c i) () = if d = i then (if i.val < c.val then N else 0) else 0 := by
  rw [O₀_apply, noEnd fun j h => end_ne_recv j c i h.symm, noBar fun j h => bar_ne_recv j c i h.symm, zero_add, add_zero]
  by_cases hd : d = i
  · subst hd
    rw [if_pos rfl, sumFrom_zero, tally_sum_apply, Finset.sum_eq_single c (fun j _ hj => ?_) (fun h => absurd (Finset.mem_univ _) h)]
    · unfold oweRecv
      split
      · rw [tallyAt_apply, if_pos ⟨rfl, rfl⟩]
      · rfl
    · unfold oweRecv
      split
      · rw [tallyAt_apply, if_neg fun h => hj (recv_inj h.1).1.symm]
      · rfl
  · rw [if_neg hd]
    exact noRecv fun j h => hd (recv_inj h).2.symm

/-- The launch credit at a cell is what the devices together owe it. -/
theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem launch_bar (c : Dev nD) : tallyOn (barCell c) (launchCredit (Pipeline.owing O₀) 0 (barCell c)) = (tallyAt (barCell c) () 16 : CellTallies nD τ sig Unit) :=
  launch_at _ _ (by rw [Finset.sum_congr rfl fun d _ => owed_bar d c]; rfl)
theorem launch_end (c : Dev nD) : tallyOn (endCell c) (launchCredit (Pipeline.owing O₀) 0 (endCell c)) = (tallyAt (endCell c) () 16 : CellTallies nD τ sig Unit) :=
  launch_at _ _ (by rw [Finset.sum_congr rfl fun d _ => owed_end d c]; rfl)
theorem launch_recv (c : Dev nD) (i : Fin 16) (h : i.val < c.val) :
    tallyOn (recvCell c i) (launchCredit (Pipeline.owing O₀) 0 (recvCell c i)) = (tallyAt (recvCell c i) () N : CellTallies nD τ sig Unit) :=
  launch_at _ _ (by rw [Finset.sum_congr rfl fun d _ => owed_recv d c i, Finset.sum_ite_eq' Finset.univ i, if_pos (Finset.mem_univ _), if_pos h])

theorem creds (c : Dev nD) : (Pipeline.launchCred O₀ c : sProp 𝕄) ⊢ credits c := by
  have hr : ∀ j : Fin 16, (cred (tallyOn (kcell (c, kRecv j)) (launchCredit (Pipeline.owing O₀) 0 (kcell (c, kRecv j)))) : sProp 𝕄) ⊢ recvCred c j := fun j => by
    rw [kcell_recv]
    unfold recvCred
    split
    · rename_i h; rw [launch_recv c j h]
    · iintro -; iempintro
  unfold Pipeline.launchCred
  refine (BI.bigSep_subset (Finset.subset_univ (Finset.univ.map ⟨csem, csem_injective⟩))).trans ?_
  rw [bigSep_map]
  refine (show _ ⊢ bigSep Finset.univ fun k : Fin 34 => (cred (tallyOn (kcell (c, k)) (launchCredit (Pipeline.owing O₀) 0 (kcell (c, k)))) : sProp 𝕄) from .rfl).trans ?_
  · rw [cells_split, kcell_bar, kcell_end, launch_bar, launch_end]
    unfold credits
    have hall : (bigSep Finset.univ fun j : Fin 16 => (cred (tallyOn (kcell (c, kRecv j)) (launchCredit (Pipeline.owing O₀) 0 (kcell (c, kRecv j)))) : sProp 𝕄))
        ⊢ bigSep Finset.univ (recvCred (F := F) c) := bigSep_mono fun j _ => hr j
    iintro ⟨⟨HB, HE⟩, -, HR⟩
    isplitl [HB]; · iexact HB
    isplitl [HE]; · iexact HE
    iapply hall; iexact HR

/-! ## The side conditions and the run -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, show cfg0.spec = spec0 from rfl, scopedRest0_eq]
  unfold Φ₀ commPts sendPts
  iintro ⟨Hs, -, Hc, Hg⟩
  isplitl [Hs]; · iexact Hs
  isplitl [Hc] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, show cfg0.spec = spec0 from rfl, scopedRest0_eq]
  unfold Φ₁ commPts sendPts
  rw [zero_split]
  iintro ⟨⟨HB, HO⟩, Hc, Hg⟩
  isplitl [HB]; · iexact HB
  isplitl [HO]; · iexact HO
  isplitl [Hc] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- Window `w`'s array after the run. -/
def finalA (c : Dev nD) (w : Fin cfg0.W) : Buf (Elt F) ((cfg0.win w).arr.view.loc (c : Thread nD τ)) := (dats m ρ 0 c).arrAt w cfg0.N

set_option maxRecDepth 8000 in
/-- On sixteen devices, from any memory with zero counters, for any float values: every weakly fair run ends, each
    device's arrays at the computed contents and every counter at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array is as it was, -/
theorem finalA_x (c : Dev nD) : finalA m ρ c (0 : Fin 2) = (s₀ m ρ).mem (win0_0.arr.view.loc (c : Thread nD τ)) :=
  (dats (F := F) m ρ 0 c).arrAt_in (0 : Fin 2) rfl _

/-- and the result's, read as the one block it is, holds what the body left. -/
theorem finalA_o (c : Dev nD) : (win0_1.blk t0_0).view.read (Elt F) (finalA m ρ c (1 : Fin 2)) = outAt m ρ c := by
  unfold finalA
  rw [show cfg0.N = (t0_0 : Fin cfg0.N).val + 1 from rfl, (dats m ρ 0 c).arrAt_succ (1 : Fin 2) t0_0,
    show (cfg0.win (1 : Fin 2)).flush t0_0 = true from flush0_1 t0_0, if_pos rfl]
  exact View.read_write_univ _ _

end Cert.KernelIdeal.Scan
end
-- ==== Proof.KernOut.lean ====
/- What the scan kernel leaves on a device, over the extended reals: the products of the whole columns before it, times the
   products down its own. -/
module

public import proofs.«01_k».proof.Proof.KernValue
public import proofs.«01_k».proof.Proof.IdealLaunch

@[expose] public section

noncomputable section

namespace Cert.KernelIdeal.ScanValue

open Cert.KernelIdeal Cert.KernelIdeal.Gen Cert.KernelIdeal.Scan Cert.SignedProd
open Idealize.ShloMosaic hiding ix1 ix2
open Idealize.ShloMosaic.ValueIdx (ix1 ix2)

variable (m : (ℓ : Loc nD τ sig) → Buf (Elt Ideal) ℓ) (ρ : Dev nD → PrngReg) (c : Dev nD)

/-- Device `d`'s argument. -/
def part (d : Dev nD) : Vec Ideal S512x512 .f32 := m ((d.tc : Thread nD τ).loc main_arg0)

/-- The argument's one block is the argument. -/
theorem xstg_eq : xstg m ρ c = part m c := by
  have hz : (fun a => (win0_0.index (0 : Fin 1)) a * main_arg0.ty.shape.size a) = fun _ => 0 :=
    funext fun a => by fin_cases a <;> decide
  unfold xstg
  exact Memref.read_access_unit_zero (Elt Ideal) main_arg0 hz (fun a => by fin_cases a <;> decide) _

/-- A sum against a row of the triangle is the sum up to the diagonal. -/
theorem sum_tri (r : Fin 512) (f : Fin 512 → EReal) : ∑ k, tri r k * f k = ∑ k ∈ Finset.univ.filter (· ≤ r), f k := by
  rw [Finset.sum_filter]
  refine Finset.sum_congr rfl fun k _ => ?_
  unfold tri
  by_cases h : k ≤ r
  · rw [if_pos h, if_pos h, one_mul]
  · rw [if_neg h, if_neg h, zero_mul]

/-- Down a device's own column. -/
theorem own_eq (r j : Fin 512) : k0_pay6 (k0_pay3 (xstg m ρ c)) (k0_pay4 (xstg m ρ c)) (ix2 r j)
    = ∏ k ∈ Finset.univ.filter (· ≤ r), part m c (ix2 k j) := by
  rw [pay6_apply, xstg_eq, sum_tri, sum_tri, ← signed_sum]
  exact congrArg₂ signed (Finset.sum_congr rfl fun k _ => pay3_apply _ _) (Finset.sum_congr rfl fun k _ => pay4_apply _ _)

theorem landed_lo (d : Dev nD) (j : Fin 512) :
    landedRow (loaded m ρ c d) (lo j) = if d < c then ∑ k : Fin 512, logAbs (part m d (ix2 k j)) else 0 := by
  unfold loaded
  rw [landedRow_eq]
  unfold slotVal
  by_cases h : d < c
  · rw [if_pos (Fin.lt_def.mp h), if_pos h]
    unfold tot
    rw [pay5_lo, xstg_eq]
  · rw [if_neg fun h' => h (Fin.lt_def.mpr h'), if_neg h]
    exact ofBits_zero

theorem landed_hi (d : Dev nD) (j : Fin 512) :
    landedRow (loaded m ρ c d) (hi j) = if d < c then ∑ k : Fin 512, isNeg (part m d (ix2 k j)) else 0 := by
  unfold loaded
  rw [landedRow_eq]
  unfold slotVal
  by_cases h : d < c
  · rw [if_pos (Fin.lt_def.mp h), if_pos h]
    unfold tot
    rw [pay5_hi, xstg_eq]
  · rw [if_neg fun h' => h (Fin.lt_def.mpr h'), if_neg h]
    exact ofBits_zero

/-- The kernel's result. -/
theorem outAt_apply (r j : Fin 512) : (outAt m ρ c : Vec Ideal S512x512 .f32) (ix2 r j)
    = (∏ k ∈ Finset.univ.filter (· ≤ r), part m c (ix2 k j))
      * ∏ d ∈ Finset.univ.filter (· < c), ∏ k : Fin 512, part m d (ix2 k j) := by
  have h := pay10_apply (k0_pay6 (k0_pay3 (xstg m ρ c)) (k0_pay4 (xstg m ρ c))) (loaded m ρ c) r j
  refine h.trans ?_
  rw [own_eq, ← Finset.prod_product' (f := fun d k => part m d (ix2 k j))]
  refine congrArg _ (Eq.trans ?_ (signed_sum _ _))
  rw [Finset.sum_product, Finset.sum_product, Finset.sum_filter, Finset.sum_filter]
  exact congrArg₂ signed (Finset.sum_congr rfl fun d _ => landed_lo m ρ c d j) (Finset.sum_congr rfl fun d _ => landed_hi m ρ c d j)

/-- Reading the result's one block reads the result. -/
theorem final_eq : finalA m ρ c (1 : Fin 2) = outAt m ρ c := by
  have hz : (fun a => (win0_1.index (0 : Fin 1)) a * main_v1.ty.shape.size a) = fun _ => 0 :=
    funext fun a => by fin_cases a <;> decide
  exact (Memref.read_access_unit_zero (Elt Ideal) main_v1 hz (fun a => by fin_cases a <;> decide) _).symm.trans (finalA_o m ρ c)

end Cert.KernelIdeal.ScanValue

end
-- ==== Proof.RefRun.lean ====
/- The run of the reference: a counted loop of 8192 trips, each multiplying one row into a running product and writing the
   product out as that row of the result. -/
module

public import proofs.«01_k».proof.Proof.Gen.ReferenceIdeal
public import Idealize.ShloMosaic.Lib.StableHlo.RunLoop
public import Idealize.ShloMosaic.Lib.Scf.Counter
public import Idealize.ShloMosaic.Lib.Scf.ExitTest
public import Idealize.ShloMosaic.Lib.Quiescent

@[expose] public section

noncomputable section

namespace Cert.ReferenceIdeal.Scan

open Cert.ReferenceIdeal Cert.ReferenceIdeal.Gen

open Idealize.ShloMosaic Idealize.ShloMosaic.StableHlo
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (ucRefs)

variable {F : FTy → Type} [FloatOps F]

/-! ## The operations, stretch by stretch -/

/-- Before the loop: the row of ones, the zero array, the counter at 0, and the copies into the carried buffers. -/
abbrev preOps : List (HloOp τ sig (Elt F)) :=
  [ StableHlo.nullary main_cst (constant S_ .f32 0x3F800000#32),
    StableHlo.unary main_cst main_v0 (broadcastInDim S512 ![] Facts₀.bcast_S_S512),
    StableHlo.nullary main_cst_0 (constant S_ .f32 0x00000000#32),
    StableHlo.unary main_cst_0 main_v1 (broadcastInDim S8192x512 ![] Facts₀.bcast_S_S8192x512),
    StableHlo.nullary main_c (constantI S_ 32 0#32),
    StableHlo.unary main_arg0 main_v2_0 id,
    StableHlo.unary main_c main_v2_1 id,
    StableHlo.unary main_v0 main_v2_2 id,
    StableHlo.unary main_v1 main_v2_3 id ]

/-- The loop's condition: is the counter below 8192? -/
abbrev condOps : List (HloOp τ sig (Elt F)) :=
  [ StableHlo.nullary main_while0c_c_4 (constantI S_ 32 8192#32),
    StableHlo.binary main_v2_1 main_while0c_c_4 main_while0c_v3 (cmpi .slt) ]

/-- The body's first call: the row at the counter. -/
abbrev readOps : List (HloOp τ sig (Elt F)) :=
  [ StableHlo.TRef.nullary main_while0b_call0.c (constantI S_ 32 0#32),
    StableHlo.TRef.unaryIndexed (.of main_v2_0 : StableHlo.TRef sig ⟨S8192x512, .f32⟩)
      ![(.of main_v2_1 : StableHlo.TRef sig ⟨S_, .i32⟩), main_while0b_call0.c] main_while0b_call0.v0
      (fun x i => Host.dynamicSlice S1x512 x (fun k => (i k (Shape.Idx.first Facts₀.h_S_)).toInt) Facts₀.sliceFits_S8192x512_S1x512),
    StableHlo.TRef.reshape main_while0b_call0.v0 main_while0b_call0.v1 (rfl : (.f32 : EltTy) = .f32) Facts₀.shapeCasts_S1x512_S512 ]

/-- The product with it. -/
abbrev mulOps : List (HloOp τ sig (Elt F)) :=
  [ StableHlo.binary main_v2_2 main_while0b_v3 main_while0b_v4 mulf ]

/-- The body's second call: the product written over the row at the counter. -/
abbrev writeOps : List (HloOp τ sig (Elt F)) :=
  [ StableHlo.TRef.unary (.of main_while0b_v4 : StableHlo.TRef sig ⟨S512, .f32⟩) main_while0b_call1.v0
      (broadcastInDim S1x512 ![1] Facts₀.bcast_S512_S1x512_1),
    StableHlo.TRef.nullary main_while0b_call1.c (constantI S_ 32 0#32),
    StableHlo.TRef.binaryIndexed (.of main_v2_3 : StableHlo.TRef sig ⟨S8192x512, .f32⟩) main_while0b_call1.v0
      ![(.of main_v2_1 : StableHlo.TRef sig ⟨S_, .i32⟩), main_while0b_call1.c] main_while0b_call1.v1
      (fun x u i => Host.dynamicUpdateSlice x u (fun k => (i k (Shape.Idx.first Facts₀.h_S_)).toInt) Facts₀.updateFits_S8192x512_S1x512) ]

/-- The body's end: the counter one up, and the copies back into the carried buffers. -/
abbrev stepOps : List (HloOp τ sig (Elt F)) :=
  [ StableHlo.nullary main_while0b_c_4 (constantI S_ 32 1#32),
    StableHlo.binary main_v2_1 main_while0b_c_4 main_while0b_v6 addi,
    StableHlo.unary main_while0b_v6 main_v2_1 id,
    StableHlo.unary main_while0b_v4 main_v2_2 id,
    StableHlo.unary main_while0b_v5 main_v2_3 id ]

/-- The stretches before the loop, and those of one trip. -/
abbrev preI : List (List (HloOp τ sig (Elt F))) := [preOps]
@[inherit_doc preI] abbrev bodyI : List (List (HloOp τ sig (Elt F))) := [readOps, mulOps, writeOps, stepOps]

theorem main_eq (c : Dev nD) :
    main (F := F) c = Pipeline.chain (((preI (F := F)).map fun ops => (seq ops : Prog _ PUnit))
      ++ HostLoop.enter 0 :: ([] : List (List (HloOp τ sig (Elt F)))).map fun ops => (seq ops : Prog _ PUnit)) := by
  chain_rfl

theorem body_eq :
    main_while0_body (F := F) = Pipeline.chain ((bodyI (F := F)).map fun ops => (seq ops : Prog _ PUnit)) := by
  simp only [main_while0_body, fn_dynamic_index_in_dim.body, fn_dynamic_update_index_in_dim.body, List.map, Pipeline.chain,
    seq, bind_assoc, pure_bind]

/-! ## What a trip leaves -/

/-- The whole-array contents, a row's, and the counter's. -/
abbrev Arr (F : FTy → Type) : Type := (⟨S8192x512, .f32⟩ : BufTy).Contents (Elt F)
@[inherit_doc Arr] abbrev Row (F : FTy → Type) : Type := (⟨S512, .f32⟩ : BufTy).Contents (Elt F)
@[inherit_doc Arr] abbrev Ctr (F : FTy → Type) : Type := (⟨S_, .i32⟩ : BufTy).Contents (Elt F)

/-- Where a row starts: the counter, and column 0. -/
def rowStart (i : Ctr F) : Fin 2 → Int := fun k => ((![i, constantI S_ 32 0#32] : Fin 2 → Ctr F) k (Shape.Idx.first h_S_)).toInt

/-- The row of `x` at a start. -/
def rowFrom (x : Arr F) (st : Fin 2 → Int) : Row F :=
  shapeCast S512 (Host.dynamicSlice S1x512 x st sliceFits_S8192x512_S1x512) shapeCasts_S1x512_S512
/-- The row of `x` at the counter. -/
def rowAt (x : Arr F) (i : Ctr F) : Row F := rowFrom x (rowStart i)

/-- `y` with the row at a start replaced by `p`. -/
def putFrom (y : Arr F) (p : Row F) (st : Fin 2 → Int) : Arr F :=
  Host.dynamicUpdateSlice y (broadcastInDim S1x512 ![1] bcast_S512_S1x512_1 p) st updateFits_S8192x512_S1x512
/-- `y` with the row at the counter replaced by `p`. -/
def putRow (y : Arr F) (p : Row F) (i : Ctr F) : Arr F := putFrom y p (rowStart i)

section Trip

variable (X : Valuation τ sig (Elt F))

theorem trip_arg : afterL bodyI (after condOps X) main_arg0 = X main_arg0 := by
  simp only [afterL_cons, afterL_nil]; after_results_simp

theorem trip_x : afterL bodyI (after condOps X) main_v2_0 = X main_v2_0 := by
  simp only [afterL_cons, afterL_nil]; after_results_simp

theorem trip_ctr : afterL bodyI (after condOps X) main_v2_1 = (addi (X main_v2_1 : Ctr F) (constantI S_ 32 1#32) : Ctr F) := by
  simp only [afterL_cons, afterL_nil]; after_results_simp; rfl

/-- The row read: what the first call leaves in its result. -/
theorem read_row : after readOps X main_while0b_v3 = rowAt (X main_v2_0) (X main_v2_1) := by
  rw [after_cons, after_cons, after_cons, after_nil, reshape_result, unaryIndexed_result, nullary_result_ne _ _ _ _ (by decide)]
  refine congrArg (rowFrom (X main_v2_0)) (funext fun k => congrArg (fun v : Ctr F => (v (Shape.Idx.first h_S_)).toInt) ?_)
  match k with
  | 0 => exact nullary_result_ne _ _ _ X (by decide)
  | 1 => exact nullary_result _ _ _ X

/-- The row written: what the second call leaves in its result. -/
theorem write_row : after writeOps X main_while0b_v5 = putRow (X main_v2_3) (X main_while0b_v4) (X main_v2_1) := by
  rw [after_cons, after_cons, after_cons, after_nil, binaryIndexed_result, nullary_result_ne _ _ _ _ (by decide),
    unary_result_ne _ _ _ _ _ _ (by decide), nullary_result_ne _ _ _ _ (by decide), unary_result]
  refine congrArg (putFrom (X main_v2_3) (X main_while0b_v4))
    (funext fun k => congrArg (fun v : Ctr F => (v (Shape.Idx.first h_S_)).toInt) ?_)
  match k with
  | 0 => exact (nullary_result_ne _ _ _ _ (by decide)).trans (unary_result_ne _ _ _ _ _ X (by decide))
  | 1 => exact nullary_result _ _ _ _

/-- The product, before it is copied back. -/
theorem trip_mul : after mulOps (after readOps (after condOps X)) main_while0b_v4
    = (mulf (X main_v2_2 : Row F) (rowAt (X main_v2_0) (X main_v2_1)) : Row F) := by
  rw [after_cons (op := StableHlo.binary main_v2_2 _ _ _ _ _ _), after_nil, binary_result, read_row]
  refine congr (congrArg (fun a b : Row F => (mulf a b : Row F)) ?_) (congr (congrArg (fun a (b : Ctr F) => rowAt (F := F) a b) ?_) ?_)
  all_goals after_results_simp

theorem trip_prod : afterL bodyI (after condOps X) main_v2_2
    = (mulf (X main_v2_2 : Row F) (rowAt (X main_v2_0) (X main_v2_1)) : Row F) := by
  rw [← trip_mul]
  generalize hY : after mulOps (after readOps (after condOps X)) = Y
  simp only [afterL_cons, afterL_nil, hY]; after_results_simp; rfl

theorem trip_out : afterL bodyI (after condOps X) main_v2_3
    = putRow (X main_v2_3) (mulf (X main_v2_2 : Row F) (rowAt (X main_v2_0) (X main_v2_1)) : Row F) (X main_v2_1) := by
  have h3 : after mulOps (after readOps (after condOps X)) main_v2_3 = X main_v2_3 := by after_results_simp
  have h1 : after mulOps (after readOps (after condOps X)) main_v2_1 = X main_v2_1 := by after_results_simp
  rw [← trip_mul, ← h3, ← h1]
  generalize hY : after mulOps (after readOps (after condOps X)) = Y
  simp only [afterL_cons, afterL_nil, hY]
  rw [← write_row]
  generalize after writeOps Y = Z
  after_results_simp; rfl

end Trip

/-- The running product and the result so far, trip by trip. -/
def scanTo (x : Arr F) : ℕ → Row F × Arr F
  | 0 => (broadcastInDim S512 ![] bcast_S_S512 (constant S_ .f32 0x3F800000#32),
      broadcastInDim S8192x512 ![] bcast_S_S8192x512 (constant S_ .f32 0x00000000#32))
  | k + 1 =>
    (mulf (scanTo x k).1 (rowAt x fun _ => Scf.iv 0#32 1#32 k),
      putRow (scanTo x k).2 (mulf (scanTo x k).1 (rowAt x fun _ => Scf.iv 0#32 1#32 k)) fun _ => Scf.iv 0#32 1#32 k)

section Trips

variable (m : (ℓ : Loc nD τ sig) → Buf (Elt F) ℓ) (c : Dev nD)

/-- The argument. -/
abbrev arg : Arr F := m ((c.tc : Thread nD τ).loc main_arg0)

/-- Every buffer before the `k`-th run of the condition. -/
abbrev at' (k : ℕ) : Valuation τ sig (Elt F) := atTrip condOps bodyI (entryContents preI m) k c

theorem at_spec (k : ℕ) : at' m c k main_arg0 = arg m c ∧ at' m c k main_v2_0 = arg m c
    ∧ (at' m c k main_v2_1 : Ctr F) = (fun _ => Scf.iv 0#32 1#32 k)
    ∧ (at' m c k main_v2_2 : Row F) = (scanTo (arg m c) k).1
    ∧ (at' m c k main_v2_3 : Arr F) = (scanTo (arg m c) k).2 := by
  induction k with
  | zero =>
    refine ⟨?_, ?_, ?_, ?_, ?_⟩ <;>
    · show afterL preI (launchContents m c) _ = _
      simp only [afterL_cons, afterL_nil]; after_results_simp <;> rfl
  | succ k ih =>
    obtain ⟨h0, h1, h2, h3, h4⟩ := ih
    refine ⟨(trip_arg _).trans h0, (trip_x _).trans h1, ?_, ?_, ?_⟩
    · refine (trip_ctr (at' m c k)).trans ?_
      rw [h2]
      funext j
      exact (Scf.iv_succ 0#32 1#32 k).symm
    · refine (trip_prod (at' m c k)).trans ?_
      rw [h1, h2, h3]; rfl
    · refine (trip_out (at' m c k)).trans ?_
      rw [h1, h2, h3, h4]; rfl

end Trips

/-! ## The condition, and the run -/

theorem sub_ucRefs (op : HloOp τ sig (Elt F)) (h : op.bufs ⊆ StableHlo.tcRefs τ sig) : op.bufs ⊆ ucRefs τ sig := fun b hb =>
  Finset.mem_filter.mpr ⟨h hb, fun h' => Bool.false_ne_true ((op.no_scoped b hb).symm.trans h')⟩

theorem trips_eq : Scf.trips (0#32) (8192#32) (1#32) = 8192 := by decide

set_option backward.isDefEq.respectTransparency.types false in
theorem cond_spec (m : (ℓ : Loc nD τ sig) → Buf (Elt F) ℓ) :
    CondSpec pcfgs defs₀ loops (main_while0_cond (F := F)) condOps bodyI (entryContents preI m) 8192 := fun k hk c bd => by
  have hctr : (at' m c k main_v2_1 : Ctr F) = _ := (at_spec m c k).2.2.1
  unfold main_while0_cond
  simp only [bind_pure]
  rw [wp_bind]
  iintro ⟨Hb, Hh⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at' m c k) main_v2_1 HostLoop.idx0)
        (HloOp.result _ (at' m c k) main_while0c_c_4 HostLoop.idx0) = 1#1) (k < 8192)
    rw [StableHlo.nullary_result_ne _ _ _ _ (by decide), StableHlo.nullary_result, hctr]
    have h := Scf.cmpi_slt_iv_ub_iff main_while0_ok (k := k) (trips_eq.symm ▸ hk)
    rw [trips_eq] at h
    exact h
  isplitl [Hb]; · iexact Hb
  rw [StableHlo.after_cons, StableHlo.after_cons, StableHlo.after_nil]; iexact Hh

theorem subs_pre : (preOps (F := F)).Forall fun op => op.bufs ⊆ tcRefs τ sig := by simp [List.Forall]
theorem subs_read : (readOps (F := F)).Forall fun op => op.bufs ⊆ tcRefs τ sig := by simp [List.Forall]
theorem subs_mul : (mulOps (F := F)).Forall fun op => op.bufs ⊆ tcRefs τ sig := by simp [List.Forall]
theorem subs_write : (writeOps (F := F)).Forall fun op => op.bufs ⊆ tcRefs τ sig := by simp [List.Forall]
theorem subs_step : (stepOps (F := F)).Forall fun op => op.bufs ⊆ tcRefs τ sig := by simp [List.Forall]

/-- The reference's run: the result holds the rows of running products, the argument is as it was, and it has no semaphore. -/
theorem run (m : (ℓ : Loc nD τ sig) → Buf (Elt F) ℓ) (ρ : Dev nD → PrngReg) :
    θ_run defs (onTc (τ := τ) (main (F := F))) ⟨m, fun _ => 0, ρ⟩ (fun r =>
      (∀ c : Dev nD, (r.2.mem ((c.tc : Thread nD τ).loc main_v2_3) : Arr F) = (scanTo (arg m c) 8192).2
        ∧ r.2.mem ((c.tc : Thread nD τ).loc main_arg0) = m ((c.tc : Thread nD τ).loc main_arg0))
      ∧ r.2.sem = fun _ => 0) := by
  have h := StableHlo.run_loop pcfgs defs₀ loops (main (F := F)) 0 main_while0_cond main_while0_body rfl preI bodyI [] condOps
    (Plain.cons subs_pre Plain.nil)
    (Plain.cons subs_read (Plain.cons subs_mul (Plain.cons subs_write (Plain.cons subs_step Plain.nil))))
    Plain.nil main_eq body_eq 8192 m ρ (cond_spec m)
  refine (θ_run defs _ _).mono (fun r h => ⟨fun c => ⟨?_, ?_⟩, sem_eq_zero_of_no_sems (by decide) r.2⟩) h
  · rw [h c main_v2_3 rfl]
    show after condOps (at' m c 8192) main_v2_3 = _
    rw [← (at_spec m c 8192).2.2.2.2]
    after_results_simp
  · rw [h c main_arg0 rfl]
    show after condOps (at' m c 8192) main_arg0 = _
    rw [← show _ = m ((c.tc : Thread nD τ).loc main_arg0) from (at_spec m c 8192).1]
    after_results_simp

end Cert.ReferenceIdeal.Scan

end
-- ==== Proof.RefValue.lean ====
/- The reference's result over the extended reals: at row `i`, the product of the argument's rows up to and with `i`. -/
module

public import proofs.«01_k».proof.Proof.RefRun
public import Idealize.ShloMosaic.Lib.IdealHost
public import Idealize.ShloMosaic.Lib.ValueIdx
public import Idealize.ShloMosaic.Lib.WordCmp
public import Idealize.ShloMosaic.Lib.Pipeline.Value
public import Idealize.ShloMosaic.Lib.Pointwise
public import Idealize.ShloMosaic.PureOps.Ideal.Laws

@[expose] public section

noncomputable section

namespace Cert.ReferenceIdeal.ScanValue

open Cert.ReferenceIdeal Cert.ReferenceIdeal.Gen Cert.ReferenceIdeal.Scan
open Idealize.ShloMosaic hiding ix1 ix2
open Idealize.ShloMosaic.ValueIdx (ix1 ix2)

/-- The counter at trip `k`. -/
def ctr (k : ℕ) : Ctr Ideal := fun _ => Scf.iv 0#32 1#32 k

theorem ctr_toInt {k : ℕ} (hk : k < 8192) : (Scf.iv 0#32 1#32 k : BitVec 32).toInt = (k : Int) := by
  rw [show (Scf.iv 0#32 1#32 k : BitVec 32) = BitVec.ofNat 32 k by simp [Scf.iv]]
  exact WordCmp.toInt_ofNat_of_lt (by omega)

/-- Where trip `k` reads and writes: row `k`. -/
theorem start_eq {k : ℕ} (hk : k < 8192) (a : Fin 2) : rowStart (F := Ideal) (ctr k) a = ((![k, 0] a : ℕ) : Int) := by
  match a with
  | ⟨0, _⟩ => exact ctr_toInt hk
  | ⟨1, _⟩ => rfl

theorem fits {k : ℕ} (hk : k < 8192) : S8192x512.Slices ![k, 0] S1x512 :=
  ⟨rfl, fun a => by
    match a with
    | ⟨0, _⟩ => exact hk
    | ⟨1, _⟩ => exact le_refl _⟩

/-- The row trip `k` reads. -/
theorem rowAt_apply (x : Arr Ideal) {k : ℕ} (hk : k < 8192) (j : Fin 512) :
    (rowAt x (ctr k) : FVec Ideal S512 .f32) (ix1 j) = (x : FVec Ideal S8192x512 .f32) (ix2 ⟨k, hk⟩ j) := by
  unfold rowAt rowFrom
  rw [WordCmp.dynamicSlice_eq_extract _ _ _ _ ![k, 0] (fits hk) (start_eq hk)]
  refine (shapeCast_dropUnit_apply ![512] _ _ _).trans ?_
  refine extractStridedSlice_apply _ _ _ _ _ fun d => ?_
  match d with
  | ⟨0, _⟩ => rfl
  | ⟨1, _⟩ => exact (Nat.zero_add _).symm

/-- The array after trip `k` has written `p` over row `k`. -/
theorem putRow_apply (y : Arr Ideal) (p : Row Ideal) {k : ℕ} (hk : k < 8192) (i : Fin 8192) (j : Fin 512) :
    (putRow y p (ctr k) : FVec Ideal S8192x512 .f32) (ix2 i j)
      = if i.val = k then (p : FVec Ideal S512 .f32) (ix1 j) else (y : FVec Ideal S8192x512 .f32) (ix2 i j) := by
  unfold putRow putFrom
  rw [WordCmp.dynamicUpdateSlice_eq_update _ _ _ _ ![k, 0] (fits hk) (start_eq hk), updateSlice_apply]
  by_cases h : i.val = k
  · rw [if_pos h, dif_pos]
    · refine congrArg (p : FVec Ideal S512 .f32) (funext fun d => ?_)
      match d with
      | ⟨0, _⟩ => rfl
    · intro a
      match a with
      | ⟨0, _⟩ => exact ⟨h.ge, by show i.val < k + 1; omega⟩
      | ⟨1, _⟩ => exact ⟨Nat.zero_le _, by show j.val < 0 + 512; omega⟩
  · rw [if_neg h, dif_neg]
    intro hall
    have h0 : k ≤ i.val ∧ i.val < k + 1 := hall (0 : Fin 2)
    omega

/-- The product of the rows before `n`, in column `j`. -/
def below (x : FVec Ideal S8192x512 .f32) (n : ℕ) (j : Fin 512) : EReal := ∏ i ∈ Finset.univ.filter (fun i : Fin 8192 => i.val < n), x (ix2 i j)

theorem below_zero (x : FVec Ideal S8192x512 .f32) (j : Fin 512) : below x 0 j = 1 := by
  unfold below
  rw [Finset.filter_false_of_mem fun i _ => Nat.not_lt_zero _]
  rfl

theorem below_succ (x : FVec Ideal S8192x512 .f32) {n : ℕ} (hn : n < 8192) (j : Fin 512) :
    below x (n + 1) j = below x n j * x (ix2 ⟨n, hn⟩ j) := by
  unfold below
  rw [show Finset.univ.filter (fun i : Fin 8192 => i.val < n + 1) = insert ⟨n, hn⟩ (Finset.univ.filter fun i : Fin 8192 => i.val < n) by
    ext i
    simp only [Finset.mem_filter, Finset.mem_univ, true_and, Finset.mem_insert, Fin.ext_iff]
    omega, Finset.prod_insert (by simp), mul_comm]

/-- After `k` trips: the running product, and the rows of products written so far. -/
theorem scanTo_apply (x : Arr Ideal) (k : ℕ) : k ≤ 8192 →
    (∀ j : Fin 512, ((scanTo x k).1 : FVec Ideal S512 .f32) (ix1 j) = below x k j)
    ∧ ∀ (i : Fin 8192) (j : Fin 512), i.val < k → ((scanTo x k).2 : FVec Ideal S8192x512 .f32) (ix2 i j) = below x (i.val + 1) j := by
  induction k with
  | zero =>
    intro _
    refine ⟨fun j => ?_, fun i j h => absurd h (Nat.not_lt_zero _)⟩
    rw [below_zero]
    exact Ideal.ofBits_one_f32
  | succ k ih =>
    intro hk
    have hk' : k < 8192 := hk
    obtain ⟨h1, h2⟩ := ih (le_of_lt hk')
    have hp : ∀ j : Fin 512, (mulf (scanTo x k).1 (rowAt x (ctr k)) : FVec Ideal S512 .f32) (ix1 j) = below x (k + 1) j := fun j => by
      rw [below_succ x hk', ← h1 j, ← rowAt_apply x hk' j]
      rfl
    refine ⟨hp, fun i j h => ?_⟩
    refine (putRow_apply (scanTo x k).2 _ hk' i j).trans ?_
    by_cases hi : i.val = k
    · rw [if_pos hi, hi]
      exact hp j
    · rw [if_neg hi]
      exact h2 i j (by omega)

/-- The reference's result. -/
theorem value (x : Arr Ideal) (i : Fin 8192) (j : Fin 512) :
    ((scanTo x 8192).2 : FVec Ideal S8192x512 .f32) (ix2 i j) = below x (i.val + 1) j :=
  (scanTo_apply x 8192 le_rfl).2 i j i.isLt

end Cert.ReferenceIdeal.ScanValue

end
-- ==== Proof.SplitProd.lean ====
/- A product over the first rows of an array cut in sixteen blocks of 512: the whole blocks before, times the rows of the last. -/
module

public import Mathlib.Algebra.BigOperators.Fin
public import Mathlib.Algebra.BigOperators.Ring.Finset
public import Mathlib.Logic.Equiv.Fin.Basic

@[expose] public section

namespace Cert.SplitProd

variable {M : Type} [CommMonoid M]

/-- Row `k` of block `d`. -/
def rowOf (d : Fin 16) (k : Fin 512) : Fin 8192 := ⟨d.val * 512 + k.val, by have := d.isLt; have := k.isLt; omega⟩

/-- Every row is a row of one block. -/
def rows : Fin 16 × Fin 512 ≃ Fin 8192 where
  toFun p := rowOf p.1 p.2
  invFun i := (⟨i.val / 512, by have := i.isLt; omega⟩, ⟨i.val % 512, Nat.mod_lt _ (Nat.succ_pos _)⟩)
  left_inv p := by
    have := p.2.isLt
    refine Prod.ext (Fin.ext ?_) (Fin.ext ?_)
    · show (p.1.val * 512 + p.2.val) / 512 = p.1.val
      omega
    · show (p.1.val * 512 + p.2.val) % 512 = p.2.val
      omega
  right_inv i := Fin.ext (by show i.val / 512 * 512 + i.val % 512 = i.val; omega)

/-- What block `d` contributes to the product up to row `r` of block `c`. -/
theorem block_prod (f : Fin 8192 → M) (c d : Fin 16) (r : Fin 512) :
    (∏ k : Fin 512, if (rowOf d k).val < (rowOf c r).val + 1 then f (rowOf d k) else 1)
      = (if d < c then ∏ k : Fin 512, f (rowOf d k) else 1) * if d = c then ∏ k ∈ Finset.univ.filter (· ≤ r), f (rowOf c k) else 1 := by
  have hr := r.isLt
  have hv : ∀ (d : Fin 16) (k : Fin 512), (rowOf d k).val = d.val * 512 + k.val := fun _ _ => rfl
  rcases lt_trichotomy d c with h | h | h
  · rw [if_pos h, if_neg h.ne, mul_one]
    refine Finset.prod_congr rfl fun k _ => if_pos ?_
    have := Fin.lt_def.mp h; have := k.isLt
    rw [hv, hv]; omega
  · subst h
    rw [if_neg (lt_irrefl _), if_pos rfl, one_mul, Finset.prod_filter]
    refine Finset.prod_congr rfl fun k _ => ?_
    refine if_congr ?_ rfl rfl
    rw [hv, hv, Fin.le_def]; omega
  · rw [if_neg (not_lt_of_gt h), if_neg h.ne', mul_one]
    refine Finset.prod_eq_one fun k _ => if_neg ?_
    have := Fin.lt_def.mp h
    rw [hv, hv]; omega

theorem split (f : Fin 8192 → M) (c : Fin 16) (r : Fin 512) :
    ∏ i ∈ Finset.univ.filter (fun i : Fin 8192 => i.val < (rowOf c r).val + 1), f i
      = (∏ k ∈ Finset.univ.filter (· ≤ r), f (rowOf c k)) * ∏ d ∈ Finset.univ.filter (· < c), ∏ k : Fin 512, f (rowOf d k) := by
  rw [Finset.prod_filter, ← Equiv.prod_comp rows, Fintype.prod_prod_type]
  refine (Finset.prod_congr rfl fun d _ => block_prod f c d r).trans ?_
  rw [Finset.prod_mul_distrib, Finset.prod_ite_eq' Finset.univ c, if_pos (Finset.mem_univ c), ← Finset.prod_filter, mul_comm]

end Cert.SplitProd
-- ==== Proof.lean ====
/- The certificate's claims: each program's run ends with its argument as it was and every counter at zero, and on sixteen
   devices the kernel's results are the blocks of the reference's. The kernel's run is IdealLaunch (and KernelLaunch, the same over machine
   floats), what it leaves KernOut; the reference's run is RefRun, its value RefValue; SplitProd joins the two. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelLaunch
public import proofs.«01_k».proof.Proof.KernOut
public import proofs.«01_k».proof.Proof.RefValue
public import proofs.«01_k».proof.Proof.SplitProd
public import Idealize.ShloMosaic.Lib.Layout
public import Idealize.ShloMosaic.Adequacy
public import Idealize.ShloMosaic.Init

@[expose] public section

noncomputable section

namespace Cert.Proof

open Idealize.ShloMosaic hiding ix1 ix2
open Idealize.ShloMosaic.ValueIdx (ix1 ix2)
open Idealize.SL.Sem

/-! ## The frames -/

/-- The kernel over machine floats. -/
theorem frame_kernel : Cert.quiescent_Kernel := by
  intro m ρ _
  exact (θ_run Cert.Kernel.defs _ _).mono
    (fun _ h => ⟨fun c => (h.1 c (0 : Fin 2)).trans (Cert.Kernel.Scan.finalA_x m ρ c), h.2⟩) (Cert.Kernel.Scan.run_main (F := Bits) m ρ)

/-- The kernel over the extended reals. -/
theorem frame_kernelIdeal : Cert.quiescent_KernelIdeal := by
  intro m ρ _
  exact (θ_run Cert.KernelIdeal.defs _ _).mono
    (fun _ h => ⟨fun c => (h.1 c (0 : Fin 2)).trans (Cert.KernelIdeal.Scan.finalA_x m ρ c), h.2⟩) (Cert.KernelIdeal.Scan.run_main (F := Ideal) m ρ)

/-- The reference. -/
theorem frame_reference : Cert.quiescent_ReferenceIdeal := by
  intro m ρ _
  exact (θ_run Cert.ReferenceIdeal.defs _ _).mono (fun _ h => ⟨fun c => (h.1 c).2, h.2⟩) (Cert.ReferenceIdeal.Scan.run (F := Ideal) m ρ)

/-! ## The value -/

/-- Block `c` of an array, at an index. -/
theorem block_at (x : FVec Ideal ⟨2, ![8192, 512]⟩ .f32) (c : Fin 16) (k j : Fin 512) :
    Layout.block ⟨2, ![512, 512]⟩ ⟨2, ![8192, 512]⟩ 0 16 c x (by decide) (ix2 k j) = x (ix2 (SplitProd.rowOf c k) j) := by
  rw [Layout.block_apply]
  refine congrArg x (funext fun d => Fin.ext ?_)
  match d with
  | ⟨0, _⟩ => rfl
  | ⟨1, _⟩ => rfl

section

variable (m : (ℓ : Loc Cert.KernelIdeal.nD Cert.KernelIdeal.τ Cert.KernelIdeal.sig) → Buf (Elt Ideal) ℓ) (ρ : Dev Cert.KernelIdeal.nD → PrngReg)
  (x : Cert.ReferenceIdeal.Scan.Arr Ideal)
  (hx : ∀ c : Dev Cert.KernelIdeal.nD, Cert.KernelIdeal.ScanValue.part m c = Layout.block ⟨2, ![512, 512]⟩ ⟨2, ![8192, 512]⟩ 0 16 c x)
  (c : Dev Cert.KernelIdeal.nD)
include hx

/-- Where every device's argument is its block of the whole, the kernel's result is the reference's at the row of the whole array. -/
theorem out_at (r j : Fin 512) : (Cert.KernelIdeal.Scan.outAt m ρ c : FVec Ideal ⟨2, ![512, 512]⟩ .f32) (ix2 r j)
    = ((Cert.ReferenceIdeal.Scan.scanTo x 8192).2 : FVec Ideal ⟨2, ![8192, 512]⟩ .f32) (ix2 (SplitProd.rowOf c r) j) := by
  refine (Cert.KernelIdeal.ScanValue.outAt_apply m ρ c r j).trans (Eq.trans ?_ (Cert.ReferenceIdeal.ScanValue.value x (SplitProd.rowOf c r) j).symm)
  refine Eq.trans ?_ (SplitProd.split (fun i => (x : FVec Ideal ⟨2, ![8192, 512]⟩ .f32) (ix2 i j)) c r).symm
  have hp : ∀ (d : Fin 16) (k : Fin 512), Cert.KernelIdeal.ScanValue.part m d (ix2 k j)
      = (x : FVec Ideal ⟨2, ![8192, 512]⟩ .f32) (ix2 (SplitProd.rowOf d k) j) := fun d k => by
    rw [hx d]
    exact block_at x d k j
  exact congrArg₂ (· * ·) (Finset.prod_congr rfl fun k _ => hp c k)
    (Finset.prod_congr rfl fun d _ => Finset.prod_congr rfl fun k _ => hp d k)

/-- What the kernel leaves on device `c` is block `c` of the reference's result. -/
theorem out_block : (Cert.KernelIdeal.Scan.outAt m ρ c : FVec Ideal ⟨2, ![512, 512]⟩ .f32)
    = Layout.block ⟨2, ![512, 512]⟩ ⟨2, ![8192, 512]⟩ 0 16 c (Cert.ReferenceIdeal.Scan.scanTo x 8192).2 := by
  refine funext fun (i : (⟨2, ![512, 512]⟩ : Shape).Idx) => ?_
  obtain ⟨r, j, rfl⟩ : ∃ r j : Fin 512, i = ix2 r j := ⟨i 0, i 1, ValueIdx.eq_ix2 i⟩
  exact (out_at m ρ x hx c r j).trans (block_at _ c r j).symm

end

/-- On the whole mesh, the kernel computes the reference's running products. -/
theorem algebraic : Cert.algebraic_KernelIdeal_ReferenceIdeal := by
  intro m ρ m' ρ' _ hagree
  refine ⟨(Cert.ReferenceIdeal.Scan.scanTo (Cert.ReferenceIdeal.Scan.arg m' 0) 8192).2, ?_, ?_⟩
  · exact (θ_run Cert.KernelIdeal.defs _ _).mono
      (fun _ h c => ⟨(h.1 c (1 : Fin 2)).trans ((Cert.KernelIdeal.ScanValue.final_eq m ρ c).trans (out_block m ρ _ hagree c)),
        (h.1 c (0 : Fin 2)).trans (Cert.KernelIdeal.Scan.finalA_x m ρ c)⟩)
      (Cert.KernelIdeal.Scan.run_main (F := Ideal) m ρ)
  · exact (θ_run Cert.ReferenceIdeal.defs _ _).mono (fun _ h => h.1 0) (Cert.ReferenceIdeal.Scan.run (F := Ideal) m' ρ')

theorem claim : Cert.Claim :=
  ⟨Cert.Kernel.Gen.facts, Cert.KernelIdeal.Gen.facts, Cert.ReferenceIdeal.Gen.facts, frame_kernel, frame_kernelIdeal, frame_reference,
    trivial, algebraic⟩

end Cert.Proof

end
